-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.BufferStatement Cert.KernelIdeal.S128x2x128 Cert.KernelIdeal.S128x1x128
  ∧ IdealRules.bf16_pair.BufferStatement Cert.KernelIdeal.S128x2x512 Cert.KernelIdeal.S128x1x512
  ∧ IdealRules.bf16_pair.Statement Cert.KernelIdeal.S256x128 Cert.KernelIdeal.S128x128
  ∧ IdealRules.bf16_pair.Statement Cert.KernelIdeal.S128x2x128 Cert.KernelIdeal.S128x1x128
  ∧ IdealRules.bf16_pair.Statement Cert.KernelIdeal.S1x2x128 Cert.KernelIdeal.S1x1x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x128x2048 : Shape := ⟨3, ![1, 128, 2048]⟩
abbrev S1x128x256 : Shape := ⟨3, ![1, 128, 256]⟩
abbrev S2 : Shape := ⟨1, ![2]⟩
abbrev S14336x2048 : Shape := ⟨2, ![14336, 2048]⟩
abbrev S14336x256 : Shape := ⟨2, ![14336, 256]⟩
abbrev S1 : Shape := ⟨1, ![1]⟩
abbrev S128x2048 : Shape := ⟨2, ![128, 2048]⟩
abbrev S128x256 : Shape := ⟨2, ![128, 256]⟩
abbrev S128x14336 : Shape := ⟨2, ![128, 14336]⟩
abbrev S512x2048 : Shape := ⟨2, ![512, 2048]⟩
abbrev S512x256 : Shape := ⟨2, ![512, 256]⟩
abbrev S128x512 : Shape := ⟨2, ![128, 512]⟩
abbrev S128x4096 : Shape := ⟨2, ![128, 4096]⟩
abbrev S128x128 : Shape := ⟨2, ![128, 128]⟩
abbrev S256x128 : Shape := ⟨2, ![256, 128]⟩
abbrev S1x128 : Shape := ⟨2, ![1, 128]⟩
abbrev S8x128 : Shape := ⟨2, ![8, 128]⟩
abbrev S16x128 : Shape := ⟨2, ![16, 128]⟩
abbrev S256x512 : Shape := ⟨2, ![256, 512]⟩
abbrev S64x512 : Shape := ⟨2, ![64, 512]⟩

abbrev nBuf : Space → Nat
  | .hbm => 9
  | .vmem => 13
  | .smem => 2
  | _ => 0

abbrev bufTy : (tb : Table) → Fin (tcTables nBuf tb) → BufTy
  | .hbm, ⟨0, _⟩ => ⟨S1x128x2048, .i8⟩
  | .hbm, ⟨1, _⟩ => ⟨S1x128x256, .fp8e4m3⟩
  | .hbm, ⟨2, _⟩ => ⟨S2, .f32⟩
  | .hbm, ⟨3, _⟩ => ⟨S14336x2048, .i8⟩
  | .hbm, ⟨4, _⟩ => ⟨S14336x256, .fp8e4m3⟩
  | .hbm, ⟨5, _⟩ => ⟨S1, .f32⟩
  | .hbm, ⟨6, _⟩ => ⟨S128x2048, .i8⟩
  | .hbm, ⟨7, _⟩ => ⟨S128x256, .fp8e4m3⟩
  | .hbm, ⟨8, _⟩ => ⟨S128x14336, .bf16⟩
  | .local _ .vmem, ⟨0, _⟩ => ⟨S128x2048, .i8⟩
  | .local _ .vmem, ⟨1, _⟩ => ⟨S128x256, .fp8e4m3⟩
  | .local _ .vmem, ⟨2, _⟩ => ⟨S512x2048, .i8⟩
  | .local _ .vmem, ⟨3, _⟩ => ⟨S512x2048, .i8⟩
  | .local _ .vmem, ⟨4, _⟩ => ⟨S512x256, .fp8e4m3⟩
  | .local _ .vmem, ⟨5, _⟩ => ⟨S512x256, .fp8e4m3⟩
  | .local _ .vmem, ⟨6, _⟩ => ⟨S128x512, .bf16⟩
  | .local _ .vmem, ⟨7, _⟩ => ⟨S128x512, .bf16⟩
  | .local _ .vmem, ⟨8, _⟩ => ⟨S128x4096, .bf16⟩
  | .local _ .vmem, ⟨9, _⟩ => ⟨S128x128, .i32⟩
  | .local _ .vmem, ⟨10, _⟩ => ⟨S128x128, .i32⟩
  | .local _ .vmem, ⟨11, _⟩ => ⟨S128x512, .i32⟩
  | .local _ .vmem, ⟨12, _⟩ => ⟨S128x512, .i32⟩
  | .local _ .smem, ⟨0, _⟩ => ⟨S2, .f32⟩
  | .local _ .smem, ⟨1, _⟩ => ⟨S1, .f32⟩
  | _, _ => ⟨S1x128x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [BitOps F]

abbrev grid0 : Pipeline.Grid := ⟨1, ![28], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_53 : BitVec 32 := 0#32
  let c16_i32_54 : BitVec 32 := 16#32
  let v125 : BitVec 32 := Scalar.addi c0_i32_53 c16_i32_54
  let c1_i32_55 : BitVec 32 := 1#32
  ⟨c0_i32_53, v125, c1_i32_55⟩
def k0_mult1 (k0_t1 : Fin k0_t1_loop.trips) : BitVec 32 :=
  let c0_i32_58 : BitVec 32 := 0#32
  let c0_i32_53 : BitVec 32 := 0#32
  let c1_i32_55 : BitVec 32 := 1#32
  let arg13 : BitVec 32 := Scf.iv c0_i32_53 c1_i32_55 k0_t1
  let c1_i32_57 : BitVec 32 := 1#32
  let v126 : BitVec 32 := Scalar.muli arg13 c1_i32_57
  let v127 : BitVec 32 := Scalar.addi c0_i32_58 v126
  let c256_i32 : BitVec 32 := 256#32
  let v128 : BitVec 32 := Scalar.muli v127 c256_i32
  v128
def k0_mult2 (k0_t1 : Fin k0_t1_loop.trips) : BitVec 32 :=
  let c0_i32_58 : BitVec 32 := 0#32
  let c0_i32_53 : BitVec 32 := 0#32
  let c1_i32_55 : BitVec 32 := 1#32
  let arg13 : BitVec 32 := Scf.iv c0_i32_53 c1_i32_55 k0_t1
  let c1_i32_57 : BitVec 32 := 1#32
  let v126 : BitVec 32 := Scalar.muli arg13 c1_i32_57
  let v127 : BitVec 32 := Scalar.addi c0_i32_58 v126
  let c128_i32 : BitVec 32 := 128#32
  let v130 : BitVec 32 := Scalar.muli v127 c128_i32
  v130
def k0_off1 (k0_t1 : Fin k0_t1_loop.trips) : Fin 2 → Nat :=
  let c0_59 : Index := 0#32
  let c0_i32_58 : BitVec 32 := 0#32
  let c0_i32_53 : BitVec 32 := 0#32
  let c1_i32_55 : BitVec 32 := 1#32
  let arg13 : BitVec 32 := Scf.iv c0_i32_53 c1_i32_55 k0_t1
  let c1_i32_57 : BitVec 32 := 1#32
  let v126 : BitVec 32 := Scalar.muli arg13 c1_i32_57
  let v127 : BitVec 32 := Scalar.addi c0_i32_58 v126
  let c128_i32 : BitVec 32 := 128#32
  let v130 : BitVec 32 := Scalar.muli v127 c128_i32
  let v131 : BitVec 32 := v130
  let v132 : Index := Scalar.indexCast v131
  ![0, v132.toNat]
def k0_off2 (k0_t1 : Fin k0_t1_loop.trips) (c0_i32_71 : BitVec 32) : Fin 2 → Nat :=
  let c0_i32_58 : BitVec 32 := 0#32
  let c0_i32_53 : BitVec 32 := 0#32
  let c1_i32_55 : BitVec 32 := 1#32
  let arg13 : BitVec 32 := Scf.iv c0_i32_53 c1_i32_55 k0_t1
  let c1_i32_57 : BitVec 32 := 1#32
  let v126 : BitVec 32 := Scalar.muli arg13 c1_i32_57
  let v127 : BitVec 32 := Scalar.addi c0_i32_58 v126
  let c8_i32_70 : BitVec 32 := 8#32
  let v177 : BitVec 32 := Scalar.muli v127 c8_i32_70
  let v178 : BitVec 32 := Scalar.addi v177 c0_i32_71
  let v179 : Index := Scalar.indexCast v178
  let c0_72 : Index := 0#32
  ![v179.toNat, 0]
def k0_off3 (k0_t1 : Fin k0_t1_loop.trips) : Fin 2 → Nat :=
  let c0_115 : Index := 0#32
  let c0_i32_58 : BitVec 32 := 0#32
  let c0_i32_53 : BitVec 32 := 0#32
  let c1_i32_55 : BitVec 32 := 1#32
  let arg13 : BitVec 32 := Scf.iv c0_i32_53 c1_i32_55 k0_t1
  let c1_i32_57 : BitVec 32 := 1#32
  let v126 : BitVec 32 := Scalar.muli arg13 c1_i32_57
  let v127 : BitVec 32 := Scalar.addi c0_i32_58 v126
  let c256_i32 : BitVec 32 := 256#32
  let v128 : BitVec 32 := Scalar.muli v127 c256_i32
  let v129 : BitVec 32 := v128
  let v307 : Index := Scalar.indexCast v129
  ![0, v307.toNat]
@[reducible] def k0_t2_loop : Scf.Loop 32 :=
  let c0_i32_34 : BitVec 32 := 0#32
  let c16_i32_35 : BitVec 32 := 16#32
  let v84 : BitVec 32 := Scalar.addi c0_i32_34 c16_i32_35
  let c1_i32 : BitVec 32 := 1#32
  ⟨c0_i32_34, v84, c1_i32⟩
def k0_mult3 (k0_t2 : Fin k0_t2_loop.trips) : BitVec 32 :=
  let c0_i32_34 : BitVec 32 := 0#32
  let c1_i32 : BitVec 32 := 1#32
  let arg13 : BitVec 32 := Scf.iv c0_i32_34 c1_i32 k0_t2
  let c128_i32 : BitVec 32 := 128#32
  let v104 : BitVec 32 := Scalar.muli arg13 c128_i32
  v104
def k0_off4 (k0_t2 : Fin k0_t2_loop.trips) : Fin 2 → Nat :=
  let c0_43 : Index := 0#32
  let c0_i32_34 : BitVec 32 := 0#32
  let c1_i32 : BitVec 32 := 1#32
  let arg13 : BitVec 32 := Scf.iv c0_i32_34 c1_i32 k0_t2
  let c128_i32 : BitVec 32 := 128#32
  let v104 : BitVec 32 := Scalar.muli arg13 c128_i32
  let v105 : BitVec 32 := v104
  let v106 : Index := Scalar.indexCast v105
  ![0, v106.toNat]
def k0_off5 (k0_t2 : Fin k0_t2_loop.trips) (c0_i32_55 : BitVec 32) : Fin 2 → Nat :=
  let c0_i32_34 : BitVec 32 := 0#32
  let c1_i32 : BitVec 32 := 1#32
  let arg13 : BitVec 32 := Scf.iv c0_i32_34 c1_i32 k0_t2
  let c8_i32_54 : BitVec 32 := 8#32
  let v150 : BitVec 32 := Scalar.muli arg13 c8_i32_54
  let v151 : BitVec 32 := Scalar.addi v150 c0_i32_55
  let v152 : Index := Scalar.indexCast v151
  let c0_56 : Index := 0#32
  ![v152.toNat, 0]
def k0_mult4 (k0_t2 : Fin k0_t2_loop.trips) : BitVec 32 :=
  let c0_i32_34 : BitVec 32 := 0#32
  let c1_i32 : BitVec 32 := 1#32
  let arg13 : BitVec 32 := Scf.iv c0_i32_34 c1_i32 k0_t2
  let c128_i32_99 : BitVec 32 := 128#32
  let v279 : BitVec 32 := Scalar.muli arg13 c128_i32_99
  v279
def k0_off6 (k0_t2 : Fin k0_t2_loop.trips) : Fin 2 → Nat :=
  let c128_100 : Index := 128#32
  let c0_i32_34 : BitVec 32 := 0#32
  let c1_i32 : BitVec 32 := 1#32
  let arg13 : BitVec 32 := Scf.iv c0_i32_34 c1_i32 k0_t2
  let c128_i32_99 : BitVec 32 := 128#32
  let v279 : BitVec 32 := Scalar.muli arg13 c128_i32_99
  let v280 : BitVec 32 := v279
  let v281 : Index := Scalar.indexCast v280
  ![128, v281.toNat]
def k0_off7 (k0_t2 : Fin k0_t2_loop.trips) (c0_i32_119 : BitVec 32) : Fin 2 → Nat :=
  let c0_i32_34 : BitVec 32 := 0#32
  let c1_i32 : BitVec 32 := 1#32
  let arg13 : BitVec 32 := Scf.iv c0_i32_34 c1_i32 k0_t2
  let c8_i32_118 : BitVec 32 := 8#32
  let v325 : BitVec 32 := Scalar.muli arg13 c8_i32_118
  let v326 : BitVec 32 := Scalar.addi v325 c0_i32_119
  let v327 : Index := Scalar.indexCast v326
  let c128_120 : Index := 128#32
  ![v327.toNat, 128]
def k0_mult5 (k0_t2 : Fin k0_t2_loop.trips) : BitVec 32 :=
  let c0_i32_34 : BitVec 32 := 0#32
  let c1_i32 : BitVec 32 := 1#32
  let arg13 : BitVec 32 := Scf.iv c0_i32_34 c1_i32 k0_t2
  let c128_i32_166 : BitVec 32 := 128#32
  let v454 : BitVec 32 := Scalar.muli arg13 c128_i32_166
  v454
def k0_off8 (k0_t2 : Fin k0_t2_loop.trips) : Fin 2 → Nat :=
  let c256_167 : Index := 256#32
  let c0_i32_34 : BitVec 32 := 0#32
  let c1_i32 : BitVec 32 := 1#32
  let arg13 : BitVec 32 := Scf.iv c0_i32_34 c1_i32 k0_t2
  let c128_i32_166 : BitVec 32 := 128#32
  let v454 : BitVec 32 := Scalar.muli arg13 c128_i32_166
  let v455 : BitVec 32 := v454
  let v456 : Index := Scalar.indexCast v455
  ![256, v456.toNat]
def k0_off9 (k0_t2 : Fin k0_t2_loop.trips) (c0_i32_186 : BitVec 32) : Fin 2 → Nat :=
  let c0_i32_34 : BitVec 32 := 0#32
  let c1_i32 : BitVec 32 := 1#32
  let arg13 : BitVec 32 := Scf.iv c0_i32_34 c1_i32 k0_t2
  let c8_i32_185 : BitVec 32 := 8#32
  let v500 : BitVec 32 := Scalar.muli arg13 c8_i32_185
  let v501 : BitVec 32 := Scalar.addi v500 c0_i32_186
  let v502 : Index := Scalar.indexCast v501
  let c256_187 : Index := 256#32
  ![v502.toNat, 256]
def k0_mult6 (k0_t2 : Fin k0_t2_loop.trips) : BitVec 32 :=
  let c0_i32_34 : BitVec 32 := 0#32
  let c1_i32 : BitVec 32 := 1#32
  let arg13 : BitVec 32 := Scf.iv c0_i32_34 c1_i32 k0_t2
  let c128_i32_233 : BitVec 32 := 128#32
  let v629 : BitVec 32 := Scalar.muli arg13 c128_i32_233
  v629
def k0_off10 (k0_t2 : Fin k0_t2_loop.trips) : Fin 2 → Nat :=
  let c384_234 : Index := 384#32
  let c0_i32_34 : BitVec 32 := 0#32
  let c1_i32 : BitVec 32 := 1#32
  let arg13 : BitVec 32 := Scf.iv c0_i32_34 c1_i32 k0_t2
  let c128_i32_233 : BitVec 32 := 128#32
  let v629 : BitVec 32 := Scalar.muli arg13 c128_i32_233
  let v630 : BitVec 32 := v629
  let v631 : Index := Scalar.indexCast v630
  ![384, v631.toNat]
def k0_off11 (k0_t2 : Fin k0_t2_loop.trips) (c0_i32_253 : BitVec 32) : Fin 2 → Nat :=
  let c0_i32_34 : BitVec 32 := 0#32
  let c1_i32 : BitVec 32 := 1#32
  let arg13 : BitVec 32 := Scf.iv c0_i32_34 c1_i32 k0_t2
  let c8_i32_252 : BitVec 32 := 8#32
  let v675 : BitVec 32 := Scalar.muli arg13 c8_i32_252
  let v676 : BitVec 32 := Scalar.addi v675 c0_i32_253
  let v677 : Index := Scalar.indexCast v676
  let c384_254 : Index := 384#32
  ![v677.toNat, 384]
def k0_mult7 (k0_t2 : Fin k0_t2_loop.trips) : BitVec 32 :=
  let c0_i32_34 : BitVec 32 := 0#32
  let c1_i32 : BitVec 32 := 1#32
  let arg13 : BitVec 32 := Scf.iv c0_i32_34 c1_i32 k0_t2
  let c256_i32 : BitVec 32 := 256#32
  let v805 : BitVec 32 := Scalar.muli arg13 c256_i32
  v805
def k0_off12 (k0_t2 : Fin k0_t2_loop.trips) : Fin 2 → Nat :=
  let c0_300 : Index := 0#32
  let c0_i32_34 : BitVec 32 := 0#32
  let c1_i32 : BitVec 32 := 1#32
  let arg13 : BitVec 32 := Scf.iv c0_i32_34 c1_i32 k0_t2
  let c256_i32 : BitVec 32 := 256#32
  let v805 : BitVec 32 := Scalar.muli arg13 c256_i32
  let v806 : BitVec 32 := v805
  let v807 : Index := Scalar.indexCast v806
  ![0, v807.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
abbrev S1x128x2048 : Shape := ⟨3, ![1, 128, 2048]⟩
abbrev S1x128x256 : Shape := ⟨3, ![1, 128, 256]⟩
abbrev S2 : Shape := ⟨1, ![2]⟩
abbrev S14336x2048 : Shape := ⟨2, ![14336, 2048]⟩
abbrev S14336x256 : Shape := ⟨2, ![14336, 256]⟩
abbrev S1 : Shape := ⟨1, ![1]⟩
abbrev S128x2048 : Shape := ⟨2, ![128, 2048]⟩
abbrev S128x256 : Shape := ⟨2, ![128, 256]⟩
abbrev S128x14336 : Shape := ⟨2, ![128, 14336]⟩
abbrev S512x2048 : Shape := ⟨2, ![512, 2048]⟩
abbrev S512x256 : Shape := ⟨2, ![512, 256]⟩
abbrev S128x512 : Shape := ⟨2, ![128, 512]⟩
abbrev S128x4096 : Shape := ⟨2, ![128, 4096]⟩
abbrev S128x128 : Shape := ⟨2, ![128, 128]⟩
abbrev S128x2x128 : Shape := ⟨3, ![128, 2, 128]⟩
abbrev S128x1x128 : Shape := ⟨3, ![128, 1, 128]⟩
abbrev S128x2x512 : Shape := ⟨3, ![128, 2, 512]⟩
abbrev S128x1x512 : Shape := ⟨3, ![128, 1, 512]⟩
abbrev S256x128 : Shape := ⟨2, ![256, 128]⟩
abbrev S1x128 : Shape := ⟨2, ![1, 128]⟩
abbrev S1x2x128 : Shape := ⟨3, ![1, 2, 128]⟩
abbrev S1x1x128 : Shape := ⟨3, ![1, 1, 128]⟩
abbrev S8x128 : Shape := ⟨2, ![8, 128]⟩
abbrev S16x128 : Shape := ⟨2, ![16, 128]⟩
abbrev S256x512 : Shape := ⟨2, ![256, 512]⟩
abbrev S64x512 : Shape := ⟨2, ![64, 512]⟩

abbrev nBuf : Space → Nat
  | .hbm => 9
  | .vmem => 13
  | .smem => 2
  | _ => 0

abbrev bufTy : (tb : Table) → Fin (tcTables nBuf tb) → BufTy
  | .hbm, ⟨0, _⟩ => ⟨S1x128x2048, .i8⟩
  | .hbm, ⟨1, _⟩ => ⟨S1x128x256, .fp8e4m3⟩
  | .hbm, ⟨2, _⟩ => ⟨S2, .f32⟩
  | .hbm, ⟨3, _⟩ => ⟨S14336x2048, .i8⟩
  | .hbm, ⟨4, _⟩ => ⟨S14336x256, .fp8e4m3⟩
  | .hbm, ⟨5, _⟩ => ⟨S1, .f32⟩
  | .hbm, ⟨6, _⟩ => ⟨S128x2048, .i8⟩
  | .hbm, ⟨7, _⟩ => ⟨S128x256, .fp8e4m3⟩
  | .hbm, ⟨8, _⟩ => ⟨S128x14336, .bf16⟩
  | .local _ .vmem, ⟨0, _⟩ => ⟨S128x2048, .i8⟩
  | .local _ .vmem, ⟨1, _⟩ => ⟨S128x256, .fp8e4m3⟩
  | .local _ .vmem, ⟨2, _⟩ => ⟨S512x2048, .i8⟩
  | .local _ .vmem, ⟨3, _⟩ => ⟨S512x2048, .i8⟩
  | .local _ .vmem, ⟨4, _⟩ => ⟨S512x256, .fp8e4m3⟩
  | .local _ .vmem, ⟨5, _⟩ => ⟨S512x256, .fp8e4m3⟩
  | .local _ .vmem, ⟨6, _⟩ => ⟨S128x512, .bf16⟩
  | .local _ .vmem, ⟨7, _⟩ => ⟨S128x512, .bf16⟩
  | .local _ .vmem, ⟨8, _⟩ => ⟨S128x4096, .bf16⟩
  | .local _ .vmem, ⟨9, _⟩ => ⟨S128x2x128, .bf16⟩
  | .local _ .vmem, ⟨10, _⟩ => ⟨S128x2x128, .bf16⟩
  | .local _ .vmem, ⟨11, _⟩ => ⟨S128x2x512, .bf16⟩
  | .local _ .vmem, ⟨12, _⟩ => ⟨S128x2x512, .bf16⟩
  | .local _ .smem, ⟨0, _⟩ => ⟨S2, .f32⟩
  | .local _ .smem, ⟨1, _⟩ => ⟨S1, .f32⟩
  | _, _ => ⟨S1x128x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![28], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_53 : BitVec 32 := 0#32
  let c16_i32_54 : BitVec 32 := 16#32
  let v125 : BitVec 32 := Scalar.addi c0_i32_53 c16_i32_54
  let c1_i32_55 : BitVec 32 := 1#32
  ⟨c0_i32_53, v125, c1_i32_55⟩
def k0_mult1 (k0_t1 : Fin k0_t1_loop.trips) : BitVec 32 :=
  let c0_i32_58 : BitVec 32 := 0#32
  let c0_i32_53 : BitVec 32 := 0#32
  let c1_i32_55 : BitVec 32 := 1#32
  let arg13 : BitVec 32 := Scf.iv c0_i32_53 c1_i32_55 k0_t1
  let c1_i32_57 : BitVec 32 := 1#32
  let v126 : BitVec 32 := Scalar.muli arg13 c1_i32_57
  let v127 : BitVec 32 := Scalar.addi c0_i32_58 v126
  let c256_i32 : BitVec 32 := 256#32
  let v128 : BitVec 32 := Scalar.muli v127 c256_i32
  v128
def k0_mult2 (k0_t1 : Fin k0_t1_loop.trips) : BitVec 32 :=
  let c0_i32_58 : BitVec 32 := 0#32
  let c0_i32_53 : BitVec 32 := 0#32
  let c1_i32_55 : BitVec 32 := 1#32
  let arg13 : BitVec 32 := Scf.iv c0_i32_53 c1_i32_55 k0_t1
  let c1_i32_57 : BitVec 32 := 1#32
  let v126 : BitVec 32 := Scalar.muli arg13 c1_i32_57
  let v127 : BitVec 32 := Scalar.addi c0_i32_58 v126
  let c128_i32 : BitVec 32 := 128#32
  let v130 : BitVec 32 := Scalar.muli v127 c128_i32
  v130
def k0_off1 (k0_t1 : Fin k0_t1_loop.trips) : Fin 2 → Nat :=
  let c0_59 : Index := 0#32
  let c0_i32_58 : BitVec 32 := 0#32
  let c0_i32_53 : BitVec 32 := 0#32
  let c1_i32_55 : BitVec 32 := 1#32
  let arg13 : BitVec 32 := Scf.iv c0_i32_53 c1_i32_55 k0_t1
  let c1_i32_57 : BitVec 32 := 1#32
  let v126 : BitVec 32 := Scalar.muli arg13 c1_i32_57
  let v127 : BitVec 32 := Scalar.addi c0_i32_58 v126
  let c128_i32 : BitVec 32 := 128#32
  let v130 : BitVec 32 := Scalar.muli v127 c128_i32
  let v131 : BitVec 32 := v130
  let v132 : Index := Scalar.indexCast v131
  ![0, v132.toNat]
def k0_off2 (k0_t1 : Fin k0_t1_loop.trips) (c0_i32_71 : BitVec 32) : Fin 3 → Nat :=
  let c0_i32_58 : BitVec 32 := 0#32
  let c0_i32_53 : BitVec 32 := 0#32
  let c1_i32_55 : BitVec 32 := 1#32
  let arg13 : BitVec 32 := Scf.iv c0_i32_53 c1_i32_55 k0_t1
  let c1_i32_57 : BitVec 32 := 1#32
  let v126 : BitVec 32 := Scalar.muli arg13 c1_i32_57
  let v127 : BitVec 32 := Scalar.addi c0_i32_58 v126
  let c8_i32_70 : BitVec 32 := 8#32
  let v177 : BitVec 32 := Scalar.muli v127 c8_i32_70
  let v178 : BitVec 32 := Scalar.addi v177 c0_i32_71
  let v179 : Index := Scalar.indexCast v178
  let c0_72 : Index := 0#32
  ![v179.toNat, 0, 0]
def k0_off3 (k0_t1 : Fin k0_t1_loop.trips) : Fin 2 → Nat :=
  let c0_115 : Index := 0#32
  let c0_i32_58 : BitVec 32 := 0#32
  let c0_i32_53 : BitVec 32 := 0#32
  let c1_i32_55 : BitVec 32 := 1#32
  let arg13 : BitVec 32 := Scf.iv c0_i32_53 c1_i32_55 k0_t1
  let c1_i32_57 : BitVec 32 := 1#32
  let v126 : BitVec 32 := Scalar.muli arg13 c1_i32_57
  let v127 : BitVec 32 := Scalar.addi c0_i32_58 v126
  let c256_i32 : BitVec 32 := 256#32
  let v128 : BitVec 32 := Scalar.muli v127 c256_i32
  let v129 : BitVec 32 := v128
  let v307 : Index := Scalar.indexCast v129
  ![0, v307.toNat]
@[reducible] def k0_t2_loop : Scf.Loop 32 :=
  let c0_i32_34 : BitVec 32 := 0#32
  let c16_i32_35 : BitVec 32 := 16#32
  let v84 : BitVec 32 := Scalar.addi c0_i32_34 c16_i32_35
  let c1_i32 : BitVec 32 := 1#32
  ⟨c0_i32_34, v84, c1_i32⟩
def k0_mult3 (k0_t2 : Fin k0_t2_loop.trips) : BitVec 32 :=
  let c0_i32_34 : BitVec 32 := 0#32
  let c1_i32 : BitVec 32 := 1#32
  let arg13 : BitVec 32 := Scf.iv c0_i32_34 c1_i32 k0_t2
  let c128_i32 : BitVec 32 := 128#32
  let v104 : BitVec 32 := Scalar.muli arg13 c128_i32
  v104
def k0_off4 (k0_t2 : Fin k0_t2_loop.trips) : Fin 2 → Nat :=
  let c0_43 : Index := 0#32
  let c0_i32_34 : BitVec 32 := 0#32
  let c1_i32 : BitVec 32 := 1#32
  let arg13 : BitVec 32 := Scf.iv c0_i32_34 c1_i32 k0_t2
  let c128_i32 : BitVec 32 := 128#32
  let v104 : BitVec 32 := Scalar.muli arg13 c128_i32
  let v105 : BitVec 32 := v104
  let v106 : Index := Scalar.indexCast v105
  ![0, v106.toNat]
def k0_off5 (k0_t2 : Fin k0_t2_loop.trips) (c0_i32_55 : BitVec 32) : Fin 3 → Nat :=
  let c0_i32_34 : BitVec 32 := 0#32
  let c1_i32 : BitVec 32 := 1#32
  let arg13 : BitVec 32 := Scf.iv c0_i32_34 c1_i32 k0_t2
  let c8_i32_54 : BitVec 32 := 8#32
  let v150 : BitVec 32 := Scalar.muli arg13 c8_i32_54
  let v151 : BitVec 32 := Scalar.addi v150 c0_i32_55
  let v152 : Index := Scalar.indexCast v151
  let c0_56 : Index := 0#32
  ![v152.toNat, 0, 0]
def k0_mult4 (k0_t2 : Fin k0_t2_loop.trips) : BitVec 32 :=
  let c0_i32_34 : BitVec 32 := 0#32
  let c1_i32 : BitVec 32 := 1#32
  let arg13 : BitVec 32 := Scf.iv c0_i32_34 c1_i32 k0_t2
  let c128_i32_99 : BitVec 32 := 128#32
  let v279 : BitVec 32 := Scalar.muli arg13 c128_i32_99
  v279
def k0_off6 (k0_t2 : Fin k0_t2_loop.trips) : Fin 2 → Nat :=
  let c128_100 : Index := 128#32
  let c0_i32_34 : BitVec 32 := 0#32
  let c1_i32 : BitVec 32 := 1#32
  let arg13 : BitVec 32 := Scf.iv c0_i32_34 c1_i32 k0_t2
  let c128_i32_99 : BitVec 32 := 128#32
  let v279 : BitVec 32 := Scalar.muli arg13 c128_i32_99
  let v280 : BitVec 32 := v279
  let v281 : Index := Scalar.indexCast v280
  ![128, v281.toNat]
def k0_off7 (k0_t2 : Fin k0_t2_loop.trips) (c0_i32_119 : BitVec 32) : Fin 3 → Nat :=
  let c0_i32_34 : BitVec 32 := 0#32
  let c1_i32 : BitVec 32 := 1#32
  let arg13 : BitVec 32 := Scf.iv c0_i32_34 c1_i32 k0_t2
  let c8_i32_118 : BitVec 32 := 8#32
  let v325 : BitVec 32 := Scalar.muli arg13 c8_i32_118
  let v326 : BitVec 32 := Scalar.addi v325 c0_i32_119
  let v327 : Index := Scalar.indexCast v326
  let c128_120 : Index := 128#32
  ![v327.toNat, 0, 128]
def k0_mult5 (k0_t2 : Fin k0_t2_loop.trips) : BitVec 32 :=
  let c0_i32_34 : BitVec 32 := 0#32
  let c1_i32 : BitVec 32 := 1#32
  let arg13 : BitVec 32 := Scf.iv c0_i32_34 c1_i32 k0_t2
  let c128_i32_166 : BitVec 32 := 128#32
  let v454 : BitVec 32 := Scalar.muli arg13 c128_i32_166
  v454
def k0_off8 (k0_t2 : Fin k0_t2_loop.trips) : Fin 2 → Nat :=
  let c256_167 : Index := 256#32
  let c0_i32_34 : BitVec 32 := 0#32
  let c1_i32 : BitVec 32 := 1#32
  let arg13 : BitVec 32 := Scf.iv c0_i32_34 c1_i32 k0_t2
  let c128_i32_166 : BitVec 32 := 128#32
  let v454 : BitVec 32 := Scalar.muli arg13 c128_i32_166
  let v455 : BitVec 32 := v454
  let v456 : Index := Scalar.indexCast v455
  ![256, v456.toNat]
def k0_off9 (k0_t2 : Fin k0_t2_loop.trips) (c0_i32_186 : BitVec 32) : Fin 3 → Nat :=
  let c0_i32_34 : BitVec 32 := 0#32
  let c1_i32 : BitVec 32 := 1#32
  let arg13 : BitVec 32 := Scf.iv c0_i32_34 c1_i32 k0_t2
  let c8_i32_185 : BitVec 32 := 8#32
  let v500 : BitVec 32 := Scalar.muli arg13 c8_i32_185
  let v501 : BitVec 32 := Scalar.addi v500 c0_i32_186
  let v502 : Index := Scalar.indexCast v501
  let c256_187 : Index := 256#32
  ![v502.toNat, 0, 256]
def k0_mult6 (k0_t2 : Fin k0_t2_loop.trips) : BitVec 32 :=
  let c0_i32_34 : BitVec 32 := 0#32
  let c1_i32 : BitVec 32 := 1#32
  let arg13 : BitVec 32 := Scf.iv c0_i32_34 c1_i32 k0_t2
  let c128_i32_233 : BitVec 32 := 128#32
  let v629 : BitVec 32 := Scalar.muli arg13 c128_i32_233
  v629
def k0_off10 (k0_t2 : Fin k0_t2_loop.trips) : Fin 2 → Nat :=
  let c384_234 : Index := 384#32
  let c0_i32_34 : BitVec 32 := 0#32
  let c1_i32 : BitVec 32 := 1#32
  let arg13 : BitVec 32 := Scf.iv c0_i32_34 c1_i32 k0_t2
  let c128_i32_233 : BitVec 32 := 128#32
  let v629 : BitVec 32 := Scalar.muli arg13 c128_i32_233
  let v630 : BitVec 32 := v629
  let v631 : Index := Scalar.indexCast v630
  ![384, v631.toNat]
def k0_off11 (k0_t2 : Fin k0_t2_loop.trips) (c0_i32_253 : BitVec 32) : Fin 3 → Nat :=
  let c0_i32_34 : BitVec 32 := 0#32
  let c1_i32 : BitVec 32 := 1#32
  let arg13 : BitVec 32 := Scf.iv c0_i32_34 c1_i32 k0_t2
  let c8_i32_252 : BitVec 32 := 8#32
  let v675 : BitVec 32 := Scalar.muli arg13 c8_i32_252
  let v676 : BitVec 32 := Scalar.addi v675 c0_i32_253
  let v677 : Index := Scalar.indexCast v676
  let c384_254 : Index := 384#32
  ![v677.toNat, 0, 384]
def k0_mult7 (k0_t2 : Fin k0_t2_loop.trips) : BitVec 32 :=
  let c0_i32_34 : BitVec 32 := 0#32
  let c1_i32 : BitVec 32 := 1#32
  let arg13 : BitVec 32 := Scf.iv c0_i32_34 c1_i32 k0_t2
  let c256_i32 : BitVec 32 := 256#32
  let v805 : BitVec 32 := Scalar.muli arg13 c256_i32
  v805
def k0_off12 (k0_t2 : Fin k0_t2_loop.trips) : Fin 2 → Nat :=
  let c0_300 : Index := 0#32
  let c0_i32_34 : BitVec 32 := 0#32
  let c1_i32 : BitVec 32 := 1#32
  let arg13 : BitVec 32 := Scf.iv c0_i32_34 c1_i32 k0_t2
  let c256_i32 : BitVec 32 := 256#32
  let v805 : BitVec 32 := Scalar.muli arg13 c256_i32
  let v806 : BitVec 32 := v805
  let v807 : Index := Scalar.indexCast v806
  ![0, v807.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x128x2048 : Shape := ⟨3, ![1, 128, 2048]⟩
abbrev S1x128x256 : Shape := ⟨3, ![1, 128, 256]⟩
abbrev S2 : Shape := ⟨1, ![2]⟩
abbrev S14336x2048 : Shape := ⟨2, ![14336, 2048]⟩
abbrev S14336x256 : Shape := ⟨2, ![14336, 256]⟩
abbrev S1 : Shape := ⟨1, ![1]⟩
abbrev S2x64 : Shape := ⟨2, ![2, 64]⟩
abbrev S128 : Shape := ⟨1, ![128]⟩
abbrev S128x1 : Shape := ⟨2, ![128, 1]⟩
abbrev S128x2048 : Shape := ⟨2, ![128, 2048]⟩
abbrev S128x256 : Shape := ⟨2, ![128, 256]⟩
abbrev S1x1 : Shape := ⟨2, ![1, 1]⟩
abbrev S128x14336 : Shape := ⟨2, ![128, 14336]⟩
abbrev S128x256x1 : Shape := ⟨3, ![128, 256, 1]⟩
abbrev S128x256x8 : Shape := ⟨3, ![128, 256, 8]⟩
abbrev S14336x256x1 : Shape := ⟨3, ![14336, 256, 1]⟩
abbrev S14336x256x8 : Shape := ⟨3, ![14336, 256, 8]⟩

abbrev nBuf : Space → Nat
  | .hbm => 13
  | .vmem => 7
  | .smem => 0
  | _ => 0

abbrev bufTy : (tb : Table) → Fin (tcTables nBuf tb) → BufTy
  | .hbm, ⟨0, _⟩ => ⟨S1x128x2048, .i8⟩
  | .hbm, ⟨1, _⟩ => ⟨S1x128x256, .fp8e4m3⟩
  | .hbm, ⟨2, _⟩ => ⟨S2, .f32⟩
  | .hbm, ⟨3, _⟩ => ⟨S14336x2048, .i8⟩
  | .hbm, ⟨4, _⟩ => ⟨S14336x256, .fp8e4m3⟩
  | .hbm, ⟨5, _⟩ => ⟨S1, .f32⟩
  | .hbm, ⟨6, _⟩ => ⟨S2x64, .f32⟩
  | .hbm, ⟨7, _⟩ => ⟨S128, .f32⟩
  | .hbm, ⟨8, _⟩ => ⟨S128x1, .f32⟩
  | .hbm, ⟨9, _⟩ => ⟨S128x2048, .i8⟩
  | .hbm, ⟨10, _⟩ => ⟨S128x256, .fp8e4m3⟩
  | .hbm, ⟨11, _⟩ => ⟨S1x1, .f32⟩
  | .hbm, ⟨12, _⟩ => ⟨S128x14336, .bf16⟩
  | .local _ .vmem, ⟨0, _⟩ => ⟨S128x2048, .i8⟩
  | .local _ .vmem, ⟨1, _⟩ => ⟨S128x256, .fp8e4m3⟩
  | .local _ .vmem, ⟨2, _⟩ => ⟨S128x1, .f32⟩
  | .local _ .vmem, ⟨3, _⟩ => ⟨S14336x2048, .i8⟩
  | .local _ .vmem, ⟨4, _⟩ => ⟨S14336x256, .fp8e4m3⟩
  | .local _ .vmem, ⟨5, _⟩ => ⟨S1x1, .f32⟩
  | .local _ .vmem, ⟨6, _⟩ => ⟨S128x14336, .bf16⟩
  | _, _ => ⟨S1x128x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S128x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S14336x2048 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S14336x256 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x14336 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelRun.A.lean ====
/- The bit-level kernel's body at the first grid point (`scf.if` taken): what its stores leave in the carried scratch `x_ref`, as
   pieces, and the run that finds them. The output's staging memref ends at some contents that nothing here names: the bit-level
   kernel is claimed only to end without fault and to leave its arguments unchanged. -/
module

public import proofs.«01_k».proof.Proof.Gen.Kernel.Frame.Runs

@[expose] public section

-- membership in a rectangle of production extents (`View.cover_of_tiled`): the elaborator's structural look
-- recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The pieces (last first) that the body's stores leave in the carried scratch `arg8` IN CASE A (`scf.if` taken: grid point 0), with the
    proof that the body runs: on whole staging memrefs, the inputs' at their contents, the output's at anything, the carried scratch `arg8` at anything,
    and the other scratch at anything, it reaches the continuation with the inputs' as they
    were, the carried scratch with its pieces written, and the output's and the other scratch at some contents. The printed functions
    are replaced by their skeletons, which `sl_exec` runs; the case's hypothesis `hc0` decides the `scf.if`; the pieces are the
    witness that the run finds. -/
noncomputable def kernelRun0_A (c : Dev nD) (i : grid0.Coords) (arg1 : Memref sig .tc .smem S2 .f32) (harg1 : arg1.IsWhole) (arg2 : Memref sig .tc .smem S1 .f32) (harg2 : arg2.IsWhole) (arg3 : Memref sig .tc .vmem S128x2048 .i8) (harg3 : arg3.IsWhole) (arg4 : Memref sig .tc .vmem S128x256 .fp8e4m3) (harg4 : arg4.IsWhole) (arg5 : Memref sig .tc .vmem S512x2048 .i8) (harg5 : arg5.IsWhole) (arg6 : Memref sig .tc .vmem S512x256 .fp8e4m3) (harg6 : arg6.IsWhole) (arg7 : Memref sig .tc .vmem S128x512 .bf16) (harg7 : arg7.IsWhole) (arg8 : Memref sig .tc .vmem S128x4096 .bf16) (harg8 : arg8.IsWhole) (arg9 : Memref sig .tc .vmem S128x128 .i32) (harg9 : arg9.IsWhole) (arg10 : Memref sig .tc .vmem S128x128 .i32) (harg10 : arg10.IsWhole) (arg11 : Memref sig .tc .vmem S128x512 .i32) (harg11 : arg11.IsWhole) (arg12 : Memref sig .tc .vmem S128x512 .i32) (harg12 : arg12.IsWhole) (hc0 : cond0_0 i)
    (x0 : Vec F S2 .f32) (x1 : Vec F S1 .f32) (x2 : Vec F S128x2048 .i8) (x3 : Vec F S128x256 .fp8e4m3) (x4 : Vec F S512x2048 .i8) (x5 : Vec F S512x256 .fp8e4m3) :
    { LS0 : List (View.Piece (Elt F) S128x4096 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ f, arg8.view.loc (c : Thread nD τ) ↦[arg8.view.set]{fullShare} arg8.view.writes (Elt F) f LS0) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_nvfp4_linear i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_nvfp4_linear_eq_skeleton]; unfold cc0_nvfp4_linear_skel
    simp only [k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Run

end
-- ==== Proof.KernelRun.B.lean ====
/- The bit-level kernel's body at every later grid point (`scf.if` not taken): the carried scratch keeps what the point before
   left, and the output's staging memref ends at some contents that nothing here names. -/
module

public import proofs.«01_k».proof.Proof.KernelRun.A

@[expose] public section

-- membership in a rectangle of production extents (`View.cover_of_tiled`): the elaborator's structural look
-- recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The pieces (last first) that the body's stores leave in the carried scratch `arg8` IN CASE B (`scf.if` not taken: grid points 1 to 27), with the
    proof that the body runs: on whole staging memrefs, the inputs' at their contents, the output's at anything, the carried scratch `arg8` at `xs0`, what the point before left,
    and the other scratch at anything, it reaches the continuation with the inputs' as they
    were, the carried scratch with its pieces written, and the output's and the other scratch at some contents. The printed functions
    are replaced by their skeletons, which `sl_exec` runs; the case's hypothesis `hc0` decides the `scf.if`; the pieces are the
    witness that the run finds. -/
noncomputable def kernelRun0_B (c : Dev nD) (i : grid0.Coords) (arg1 : Memref sig .tc .smem S2 .f32) (harg1 : arg1.IsWhole) (arg2 : Memref sig .tc .smem S1 .f32) (harg2 : arg2.IsWhole) (arg3 : Memref sig .tc .vmem S128x2048 .i8) (harg3 : arg3.IsWhole) (arg4 : Memref sig .tc .vmem S128x256 .fp8e4m3) (harg4 : arg4.IsWhole) (arg5 : Memref sig .tc .vmem S512x2048 .i8) (harg5 : arg5.IsWhole) (arg6 : Memref sig .tc .vmem S512x256 .fp8e4m3) (harg6 : arg6.IsWhole) (arg7 : Memref sig .tc .vmem S128x512 .bf16) (harg7 : arg7.IsWhole) (arg8 : Memref sig .tc .vmem S128x4096 .bf16) (harg8 : arg8.IsWhole) (arg9 : Memref sig .tc .vmem S128x128 .i32) (harg9 : arg9.IsWhole) (arg10 : Memref sig .tc .vmem S128x128 .i32) (harg10 : arg10.IsWhole) (arg11 : Memref sig .tc .vmem S128x512 .i32) (harg11 : arg11.IsWhole) (arg12 : Memref sig .tc .vmem S128x512 .i32) (harg12 : arg12.IsWhole) (hc0 : ¬cond0_0 i)
    (x0 : Vec F S2 .f32) (x1 : Vec F S1 .f32) (x2 : Vec F S128x2048 .i8) (x3 : Vec F S128x256 .fp8e4m3) (x4 : Vec F S512x2048 .i8) (x5 : Vec F S512x256 .fp8e4m3) (xs0 : Vec F S128x4096 .bf16) :
    { LS0 : List (View.Piece (Elt F) S128x4096 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_nvfp4_linear i arg1 harg1 arg2 harg2 arg3 harg3 arg4 harg4 arg5 harg5 arg6 harg6 arg7 harg7 arg8 harg8 arg9 harg9 arg10 harg10 arg11 harg11 arg12 harg12) K } := by
  refine ⟨[], fun E K => ?run⟩
  case run =>
    simp only [cc0_nvfp4_linear_eq_skeleton]; unfold cc0_nvfp4_linear_skel
    simp only [k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [HS0]
    · iexists _; isplitr; · ipureintro; exact harg8.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Run

end
-- ==== Proof.KernelRun.Frame.lean ====
/- The frame of the bit-level kernel over the two runs of KernelRun/A.lean and KernelRun/B.lean: what the carried scratch holds
   after each grid point, the pipeline's proof data with the output's contents forgotten, the body obligation at a generic point,
   the run, and `frame`, the frame claim. -/
module

public import proofs.«01_k».proof.Proof.KernelRun.B
public import Idealize.ShloMosaic.Lib.Claim

@[expose] public section

-- membership in a rectangle of production extents (`View.cover_of_tiled`): the elaborator's structural look
-- recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 0 rfl).trans ((hA c 0).trans (V_main_arg2 m c)),
      (Pipeline.RDat.FramePost.arr_in h c 4 rfl).trans ((hA c 4).trans (V_main_arg3 m c)),
      (Pipeline.RDat.FramePost.arr_in h c 5 rfl).trans ((hA c 5).trans (V_main_arg4 m c)),
      (Pipeline.RDat.FramePost.arr_in h c 1 rfl).trans ((hA c 1).trans (V_main_arg5 m c))⟩) h

/-- Case A's pieces for scratch `arg8`, which the kernel carries between points, cover it: 16 pieces of `S128x256` tiling it (Lib/Ring.lean `Piece.tiledL`). -/
theorem scover0_A_0 (c : Dev nD) (i : grid0.Coords) (arg1 : Memref sig .tc .smem S2 .f32) (harg1 : arg1.IsWhole) (arg2 : Memref sig .tc .smem S1 .f32) (harg2 : arg2.IsWhole) (arg3 : Memref sig .tc .vmem S128x2048 .i8) (harg3 : arg3.IsWhole) (arg4 : Memref sig .tc .vmem S128x256 .fp8e4m3) (harg4 : arg4.IsWhole) (arg5 : Memref sig .tc .vmem S512x2048 .i8) (harg5 : arg5.IsWhole) (arg6 : Memref sig .tc .vmem S512x256 .fp8e4m3) (harg6 : arg6.IsWhole) (arg7 : Memref sig .tc .vmem S128x512 .bf16) (harg7 : arg7.IsWhole) (arg8 : Memref sig .tc .vmem S128x4096 .bf16) (harg8 : arg8.IsWhole) (arg9 : Memref sig .tc .vmem S128x128 .i32) (harg9 : arg9.IsWhole) (arg10 : Memref sig .tc .vmem S128x128 .i32) (harg10 : arg10.IsWhole) (arg11 : Memref sig .tc .vmem S128x512 .i32) (harg11 : arg11.IsWhole) (arg12 : Memref sig .tc .vmem S128x512 .i32) (harg12 : arg12.IsWhole) (hc0 : cond0_0 i)
    (x0 : Vec F S2 .f32) (x1 : Vec F S1 .f32) (x2 : Vec F S128x2048 .i8) (x3 : Vec F S128x256 .fp8e4m3) (x4 : Vec F S512x2048 .i8) (x5 : Vec F S512x256 .fp8e4m3) (y : S128x4096.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).1 S128x256.size (by sl_kernel_rfl) y

/-- What case A leaves in scratch `arg8`: its pieces read back over junk. -/
def sout0_A_0 (c : Dev nD) (i : grid0.Coords) (arg1 : Memref sig .tc .smem S2 .f32) (harg1 : arg1.IsWhole) (arg2 : Memref sig .tc .smem S1 .f32) (harg2 : arg2.IsWhole) (arg3 : Memref sig .tc .vmem S128x2048 .i8) (harg3 : arg3.IsWhole) (arg4 : Memref sig .tc .vmem S128x256 .fp8e4m3) (harg4 : arg4.IsWhole) (arg5 : Memref sig .tc .vmem S512x2048 .i8) (harg5 : arg5.IsWhole) (arg6 : Memref sig .tc .vmem S512x256 .fp8e4m3) (harg6 : arg6.IsWhole) (arg7 : Memref sig .tc .vmem S128x512 .bf16) (harg7 : arg7.IsWhole) (arg8 : Memref sig .tc .vmem S128x4096 .bf16) (harg8 : arg8.IsWhole) (arg9 : Memref sig .tc .vmem S128x128 .i32) (harg9 : arg9.IsWhole) (arg10 : Memref sig .tc .vmem S128x128 .i32) (harg10 : arg10.IsWhole) (arg11 : Memref sig .tc .vmem S128x512 .i32) (harg11 : arg11.IsWhole) (arg12 : Memref sig .tc .vmem S128x512 .i32) (harg12 : arg12.IsWhole) (hc0 : cond0_0 i)
    (x0 : Vec F S2 .f32) (x1 : Vec F S1 .f32) (x2 : Vec F S128x2048 .i8) (x3 : Vec F S128x256 .fp8e4m3) (x4 : Vec F S512x2048 .i8) (x5 : Vec F S512x256 .fp8e4m3) : Vec F S128x4096 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).1)

/-- Case B stores nothing into scratch `arg8`: it holds what the point before left. -/
def sout0_B_0 (c : Dev nD) (i : grid0.Coords) (arg1 : Memref sig .tc .smem S2 .f32) (harg1 : arg1.IsWhole) (arg2 : Memref sig .tc .smem S1 .f32) (harg2 : arg2.IsWhole) (arg3 : Memref sig .tc .vmem S128x2048 .i8) (harg3 : arg3.IsWhole) (arg4 : Memref sig .tc .vmem S128x256 .fp8e4m3) (harg4 : arg4.IsWhole) (arg5 : Memref sig .tc .vmem S512x2048 .i8) (harg5 : arg5.IsWhole) (arg6 : Memref sig .tc .vmem S512x256 .fp8e4m3) (harg6 : arg6.IsWhole) (arg7 : Memref sig .tc .vmem S128x512 .bf16) (harg7 : arg7.IsWhole) (arg8 : Memref sig .tc .vmem S128x4096 .bf16) (harg8 : arg8.IsWhole) (arg9 : Memref sig .tc .vmem S128x128 .i32) (harg9 : arg9.IsWhole) (arg10 : Memref sig .tc .vmem S128x128 .i32) (harg10 : arg10.IsWhole) (arg11 : Memref sig .tc .vmem S128x512 .i32) (harg11 : arg11.IsWhole) (arg12 : Memref sig .tc .vmem S128x512 .i32) (harg12 : arg12.IsWhole) (hc0 : ¬cond0_0 i)
    (x0 : Vec F S2 .f32) (x1 : Vec F S1 .f32) (x2 : Vec F S128x2048 .i8) (x3 : Vec F S128x256 .fp8e4m3) (x4 : Vec F S512x2048 .i8) (x5 : Vec F S512x256 .fp8e4m3) (xs0 : Vec F S128x4096 .bf16) : Vec F S128x4096 .bf16 := xs0

/-! ## What the carried scratch holds after each point -/

/-- What the scratch that the kernel carries between points holds after the body at position `n`:
    what case A stores when `n` is the first point, and otherwise what the point before left. -/
def outsAt0 (c : Dev nD) : (n : ℕ) → n < cfg0.N → Vec F S128x4096 .bf16
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 28 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn))

/-- `outsAt0` at a point of case A: that case's contents. -/
theorem outsAt0_A (c : Dev nD) (t : Fin cfg0.N) (h0 : t.val % 28 = 0) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 28 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  cases n with
  | zero => exact absurd rfl hz
  | succ n => rfl

/-! ## The pipeline's proof data -/

/-- The output windows this certificate FORGETS (6): nothing reads what the kernel leaves in them, so nothing
    of it is named (Lib/Pipeline/Dat.lean `Dat.toRForget`). -/
def forgets0 : Fin 7 → Bool := fun w => w.val == 6

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 28 := lt_of_lt_of_eq t.isLt (show cfg0.N = 28 from N_0)
  by_cases h0 : t.val % 28 = 0
  · by_cases hz : t.val = 0
    · rw [PhiS_castSucc m c t, PhiS_zero m c _ _ hz, PhiA0_eq]
      rw [outsAt0_A m c t h0]
      unfold sout0_A_0
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, ⟨%es0, HS0⟩, HS1, HS2, HS3, HS4⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _)
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · exfalso; have hN : t.val < 28 := lt_of_lt_of_eq t.isLt (show cfg0.N = 28 from N_0); omega
  · by_cases hz : t.val = 0
    · exfalso; have hN : t.val < 28 := lt_of_lt_of_eq t.isLt (show cfg0.N = 28 from N_0); omega
    · rw [PhiS_castSucc m c t, PhiS_pos m c _ _ hz]
      rw [outsAt0_B m c t h0]
      unfold sout0_B_0
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexact HS1
    isplitl [HS2]
    · iexact HS2
    isplitl [HS3]
    · iexact HS3
    iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 28 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- The frame claim of the bit-level kernel: the run ends without fault, the arguments are as launched, and every semaphore
    counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Run

end
-- ==== Proof.Run.A.lean ====
/- The body's run at the first grid point (`scf.if` taken): what its stores leave in the output's staging memref and in the
   carried scratch `x_ref`, as pieces. The text is that of the generated frame's first case with one step added. The second loop
   reads the scratch that the first loop wrote, so its value is stated over what the scratch held when the kernel was entered;
   `writes_pb` removes that dependence, because the first loop's trips store every element of the scratch. The generated module
   states the pieces outside the scope of those entry contents and so cannot name them. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- THE FIRST LOOP'S TRIPS COVER THE CARRIED SCRATCH: its sixteen trips store sixteen blocks of 256 columns, which tile the
    4096 columns. -/
theorem cover_pb (c : Dev nD) (i : grid0.Coords) (arg1 : Memref sig .tc .smem S2 .f32) (harg1 : arg1.IsWhole) (arg2 : Memref sig .tc .smem S1 .f32) (harg2 : arg2.IsWhole) (arg3 : Memref sig .tc .vmem S128x2048 .i8) (harg3 : arg3.IsWhole) (arg4 : Memref sig .tc .vmem S128x256 .fp8e4m3) (harg4 : arg4.IsWhole) (arg5 : Memref sig .tc .vmem S512x2048 .i8) (harg5 : arg5.IsWhole) (arg6 : Memref sig .tc .vmem S512x256 .fp8e4m3) (harg6 : arg6.IsWhole) (arg7 : Memref sig .tc .vmem S128x512 .bf16) (harg7 : arg7.IsWhole) (arg8 : Memref sig .tc .vmem S128x4096 .bf16) (harg8 : arg8.IsWhole) (arg9 : Memref sig .tc .vmem S128x2x128 .bf16) (harg9 : arg9.IsWhole) (arg10 : Memref sig .tc .vmem S128x2x128 .bf16) (harg10 : arg10.IsWhole) (arg11 : Memref sig .tc .vmem S128x2x512 .bf16) (harg11 : arg11.IsWhole) (arg12 : Memref sig .tc .vmem S128x2x512 .bf16) (harg12 : arg12.IsWhole) (hc0 : cond0_0 i)
    (X3 : BufTy.Contents (Elt F) arg3.view.ty) (X9 : BufTy.Contents (Elt F) arg9.view.ty) (X10 : BufTy.Contents (Elt F) arg10.view.ty) (y : S128x4096.Idx) :
    ∃ pc ∈ pb_k0_t1 Variants.none c none i arg1 harg1 arg2 harg2 arg3 harg3 arg4 harg4 arg5 harg5 arg6 harg6 arg7 harg7 arg8 harg8 arg9 harg9 arg10 harg10 arg11 harg11 arg12 harg12 hc0 X3 X9 X10 (Scf.trips k0_t1_loop.lb k0_t1_loop.ub k0_t1_loop.st), y ∈ pc.1.set :=
  View.cover_of_tiledL (pb_k0_t1 Variants.none c none i arg1 harg1 arg2 harg2 arg3 harg3 arg4 harg4 arg5 harg5 arg6 harg6 arg7 harg7 arg8 harg8 arg9 harg9 arg10 harg10 arg11 harg11 arg12 harg12 hc0 X3 X9 X10 (Scf.trips k0_t1_loop.lb k0_t1_loop.ub k0_t1_loop.st)) S128x256.size (by sl_kernel_rfl) y

/-- What the scratch held before the loop does not matter after it: every index is in some trip's store. -/
theorem writes_pb (c : Dev nD) (i : grid0.Coords) (arg1 : Memref sig .tc .smem S2 .f32) (harg1 : arg1.IsWhole) (arg2 : Memref sig .tc .smem S1 .f32) (harg2 : arg2.IsWhole) (arg3 : Memref sig .tc .vmem S128x2048 .i8) (harg3 : arg3.IsWhole) (arg4 : Memref sig .tc .vmem S128x256 .fp8e4m3) (harg4 : arg4.IsWhole) (arg5 : Memref sig .tc .vmem S512x2048 .i8) (harg5 : arg5.IsWhole) (arg6 : Memref sig .tc .vmem S512x256 .fp8e4m3) (harg6 : arg6.IsWhole) (arg7 : Memref sig .tc .vmem S128x512 .bf16) (harg7 : arg7.IsWhole) (arg8 : Memref sig .tc .vmem S128x4096 .bf16) (harg8 : arg8.IsWhole) (arg9 : Memref sig .tc .vmem S128x2x128 .bf16) (harg9 : arg9.IsWhole) (arg10 : Memref sig .tc .vmem S128x2x128 .bf16) (harg10 : arg10.IsWhole) (arg11 : Memref sig .tc .vmem S128x2x512 .bf16) (harg11 : arg11.IsWhole) (arg12 : Memref sig .tc .vmem S128x2x512 .bf16) (harg12 : arg12.IsWhole) (hc0 : cond0_0 i)
    (X3 : BufTy.Contents (Elt F) arg3.view.ty) (X9 : BufTy.Contents (Elt F) arg9.view.ty) (X10 : BufTy.Contents (Elt F) arg10.view.ty) (f : BufTy.Contents (Elt F) arg8.view.ty) :
    arg8.view.writes (Elt F) f (pb_k0_t1 Variants.none c none i arg1 harg1 arg2 harg2 arg3 harg3 arg4 harg4 arg5 harg5 arg6 harg6 arg7 harg7 arg8 harg8 arg9 harg9 arg10 harg10 arg11 harg11 arg12 harg12 hc0 X3 X9 X10 (Scf.trips k0_t1_loop.lb k0_t1_loop.ub k0_t1_loop.st))
      = arg8.view.writes (Elt F) arg8.view.junk (pb_k0_t1 Variants.none c none i arg1 harg1 arg2 harg2 arg3 harg3 arg4 harg4 arg5 harg5 arg6 harg6 arg7 harg7 arg8 harg8 arg9 harg9 arg10 harg10 arg11 harg11 arg12 harg12 hc0 X3 X9 X10 (Scf.trips k0_t1_loop.lb k0_t1_loop.ub k0_t1_loop.st)) := by
  have h := cover_pb (F := F) c i arg1 harg1 arg2 harg2 arg3 harg3 arg4 harg4 arg5 harg5 arg6 harg6 arg7 harg7 arg8 harg8 arg9 harg9 arg10 harg10 arg11 harg11 arg12 harg12 hc0 X3 X9 X10
  rw [harg8.eq_unread (View.read_writes_eq_canon arg8.view f _ h), harg8.eq_unread (View.read_writes_eq_canon arg8.view arg8.view.junk _ h)]

/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S2 .f32) (harg1 : arg1.IsWhole) (arg2 : Memref sig .tc .smem S1 .f32) (harg2 : arg2.IsWhole) (arg3 : Memref sig .tc .vmem S128x2048 .i8) (harg3 : arg3.IsWhole) (arg4 : Memref sig .tc .vmem S128x256 .fp8e4m3) (harg4 : arg4.IsWhole) (arg5 : Memref sig .tc .vmem S512x2048 .i8) (harg5 : arg5.IsWhole) (arg6 : Memref sig .tc .vmem S512x256 .fp8e4m3) (harg6 : arg6.IsWhole) (arg7 : Memref sig .tc .vmem S128x512 .bf16) (harg7 : arg7.IsWhole) (arg8 : Memref sig .tc .vmem S128x4096 .bf16) (harg8 : arg8.IsWhole) (arg9 : Memref sig .tc .vmem S128x2x128 .bf16) (harg9 : arg9.IsWhole) (arg10 : Memref sig .tc .vmem S128x2x128 .bf16) (harg10 : arg10.IsWhole) (arg11 : Memref sig .tc .vmem S128x2x512 .bf16) (harg11 : arg11.IsWhole) (arg12 : Memref sig .tc .vmem S128x2x512 .bf16) (harg12 : arg12.IsWhole) (hc0 : cond0_0 i)
    (x0 : Vec F S2 .f32) (x1 : Vec F S1 .f32) (x2 : Vec F S128x2048 .i8) (x3 : Vec F S128x256 .fp8e4m3) (x4 : Vec F S512x2048 .i8) (x5 : Vec F S512x256 .fp8e4m3) :
    Σ' (L6 : List (View.Piece (Elt F) S128x512 .bf16)), { LS0 : List (View.Piece (Elt F) S128x4096 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_nvfp4_linear i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0_nvfp4_linear_eq_skeleton]; unfold cc0_nvfp4_linear_skel
    simp only [k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    sl_unfold_words
    simp only [writes_pb _ _ _ _ _ _ _ _ _ _ _ _ _ _ _ _ _ _ _ _ _ _ _ _ _ _ _ _ _ _ fs0]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Run

end
-- ==== Proof.Run.B.lean ====
/- The body's run at every later grid point (`scf.if` not taken): what its stores leave in the output's staging memref, over
   what the point before left in the carried scratch. The text of the generated frame's second case. -/
module

public import proofs.«01_k».proof.Proof.Run.A

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 27: 27 of 28), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S2 .f32) (harg1 : arg1.IsWhole) (arg2 : Memref sig .tc .smem S1 .f32) (harg2 : arg2.IsWhole) (arg3 : Memref sig .tc .vmem S128x2048 .i8) (harg3 : arg3.IsWhole) (arg4 : Memref sig .tc .vmem S128x256 .fp8e4m3) (harg4 : arg4.IsWhole) (arg5 : Memref sig .tc .vmem S512x2048 .i8) (harg5 : arg5.IsWhole) (arg6 : Memref sig .tc .vmem S512x256 .fp8e4m3) (harg6 : arg6.IsWhole) (arg7 : Memref sig .tc .vmem S128x512 .bf16) (harg7 : arg7.IsWhole) (arg8 : Memref sig .tc .vmem S128x4096 .bf16) (harg8 : arg8.IsWhole) (arg9 : Memref sig .tc .vmem S128x2x128 .bf16) (harg9 : arg9.IsWhole) (arg10 : Memref sig .tc .vmem S128x2x128 .bf16) (harg10 : arg10.IsWhole) (arg11 : Memref sig .tc .vmem S128x2x512 .bf16) (harg11 : arg11.IsWhole) (arg12 : Memref sig .tc .vmem S128x2x512 .bf16) (harg12 : arg12.IsWhole) (hc0 : ¬cond0_0 i)
    (x0 : Vec F S2 .f32) (x1 : Vec F S1 .f32) (x2 : Vec F S128x2048 .i8) (x3 : Vec F S128x256 .fp8e4m3) (x4 : Vec F S512x2048 .i8) (x5 : Vec F S512x256 .fp8e4m3) (xs0 : Vec F S128x4096 .bf16) :
    Σ' (L6 : List (View.Piece (Elt F) S128x512 .bf16)), { LS0 : List (View.Piece (Elt F) S128x4096 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xs0 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_nvfp4_linear i arg1 harg1 arg2 harg2 arg3 harg3 arg4 harg4 arg5 harg5 arg6 harg6 arg7 harg7 arg8 harg8 arg9 harg9 arg10 harg10 arg11 harg11 arg12 harg12) K } := by
  refine ⟨?_, [], fun E K => ?run⟩
  case run =>
    simp only [cc0_nvfp4_linear_eq_skeleton]; unfold cc0_nvfp4_linear_skel
    simp only [k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]
    · iexists _; isplitr; · ipureintro; exact harg8.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Run

end
-- ==== Proof.Run.Frame.lean ====
/- The frame of the idealized kernel over the two runs of Run/A.lean and Run/B.lean: what the output and the carried scratch
   hold after each grid point (`outsAt0`), the pipeline's proof data (`dats`), the body obligation at a generic point, the run
   (`run_main`), and `frame`, the frame claim. The text of the generated frame over those runs. -/
module

public import proofs.«01_k».proof.Proof.Run.B
public import Idealize.ShloMosaic.Lib.Claim

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 6 tile its block (2 stores of `S64x512`, checked by the kernel's evaluation: Lib/Ring.lean `Piece.tiledL`, linear in the pieces, through a loop's `@[irreducible]` trip theorem too), so they cover it. -/
theorem cover0_A_6 (c : Dev nD) (i : grid0.Coords) (arg1 : Memref sig .tc .smem S2 .f32) (harg1 : arg1.IsWhole) (arg2 : Memref sig .tc .smem S1 .f32) (harg2 : arg2.IsWhole) (arg3 : Memref sig .tc .vmem S128x2048 .i8) (harg3 : arg3.IsWhole) (arg4 : Memref sig .tc .vmem S128x256 .fp8e4m3) (harg4 : arg4.IsWhole) (arg5 : Memref sig .tc .vmem S512x2048 .i8) (harg5 : arg5.IsWhole) (arg6 : Memref sig .tc .vmem S512x256 .fp8e4m3) (harg6 : arg6.IsWhole) (arg7 : Memref sig .tc .vmem S128x512 .bf16) (harg7 : arg7.IsWhole) (arg8 : Memref sig .tc .vmem S128x4096 .bf16) (harg8 : arg8.IsWhole) (arg9 : Memref sig .tc .vmem S128x2x128 .bf16) (harg9 : arg9.IsWhole) (arg10 : Memref sig .tc .vmem S128x2x128 .bf16) (harg10 : arg10.IsWhole) (arg11 : Memref sig .tc .vmem S128x2x512 .bf16) (harg11 : arg11.IsWhole) (arg12 : Memref sig .tc .vmem S128x2x512 .bf16) (harg12 : arg12.IsWhole) (hc0 : cond0_0 i)
    (x0 : Vec F S2 .f32) (x1 : Vec F S1 .f32) (x2 : Vec F S128x2048 .i8) (x3 : Vec F S128x256 .fp8e4m3) (x4 : Vec F S512x2048 .i8) (x5 : Vec F S512x256 .fp8e4m3) (y : S128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).1 S64x512.size (by sl_kernel_rfl) y

/-- What case A leaves in output 6's staging buffer: its pieces read back over junk. -/
def out0_A_6 (c : Dev nD) (i : grid0.Coords) (arg1 : Memref sig .tc .smem S2 .f32) (harg1 : arg1.IsWhole) (arg2 : Memref sig .tc .smem S1 .f32) (harg2 : arg2.IsWhole) (arg3 : Memref sig .tc .vmem S128x2048 .i8) (harg3 : arg3.IsWhole) (arg4 : Memref sig .tc .vmem S128x256 .fp8e4m3) (harg4 : arg4.IsWhole) (arg5 : Memref sig .tc .vmem S512x2048 .i8) (harg5 : arg5.IsWhole) (arg6 : Memref sig .tc .vmem S512x256 .fp8e4m3) (harg6 : arg6.IsWhole) (arg7 : Memref sig .tc .vmem S128x512 .bf16) (harg7 : arg7.IsWhole) (arg8 : Memref sig .tc .vmem S128x4096 .bf16) (harg8 : arg8.IsWhole) (arg9 : Memref sig .tc .vmem S128x2x128 .bf16) (harg9 : arg9.IsWhole) (arg10 : Memref sig .tc .vmem S128x2x128 .bf16) (harg10 : arg10.IsWhole) (arg11 : Memref sig .tc .vmem S128x2x512 .bf16) (harg11 : arg11.IsWhole) (arg12 : Memref sig .tc .vmem S128x2x512 .bf16) (harg12 : arg12.IsWhole) (hc0 : cond0_0 i)
    (x0 : Vec F S2 .f32) (x1 : Vec F S1 .f32) (x2 : Vec F S128x2048 .i8) (x3 : Vec F S128x256 .fp8e4m3) (x4 : Vec F S512x2048 .i8) (x5 : Vec F S512x256 .fp8e4m3) : Vec F S128x512 .bf16 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).1)

/-- Case A's pieces for scratch `arg8`, which the kernel carries between points, cover it: 16 pieces of `S128x256` tiling it (Lib/Ring.lean `Piece.tiledL`). -/
theorem scover0_A_0 (c : Dev nD) (i : grid0.Coords) (arg1 : Memref sig .tc .smem S2 .f32) (harg1 : arg1.IsWhole) (arg2 : Memref sig .tc .smem S1 .f32) (harg2 : arg2.IsWhole) (arg3 : Memref sig .tc .vmem S128x2048 .i8) (harg3 : arg3.IsWhole) (arg4 : Memref sig .tc .vmem S128x256 .fp8e4m3) (harg4 : arg4.IsWhole) (arg5 : Memref sig .tc .vmem S512x2048 .i8) (harg5 : arg5.IsWhole) (arg6 : Memref sig .tc .vmem S512x256 .fp8e4m3) (harg6 : arg6.IsWhole) (arg7 : Memref sig .tc .vmem S128x512 .bf16) (harg7 : arg7.IsWhole) (arg8 : Memref sig .tc .vmem S128x4096 .bf16) (harg8 : arg8.IsWhole) (arg9 : Memref sig .tc .vmem S128x2x128 .bf16) (harg9 : arg9.IsWhole) (arg10 : Memref sig .tc .vmem S128x2x128 .bf16) (harg10 : arg10.IsWhole) (arg11 : Memref sig .tc .vmem S128x2x512 .bf16) (harg11 : arg11.IsWhole) (arg12 : Memref sig .tc .vmem S128x2x512 .bf16) (harg12 : arg12.IsWhole) (hc0 : cond0_0 i)
    (x0 : Vec F S2 .f32) (x1 : Vec F S1 .f32) (x2 : Vec F S128x2048 .i8) (x3 : Vec F S128x256 .fp8e4m3) (x4 : Vec F S512x2048 .i8) (x5 : Vec F S512x256 .fp8e4m3) (y : S128x4096.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).2.1 S128x256.size (by sl_kernel_rfl) y

/-- What case A leaves in scratch `arg8`: its pieces read back over junk. -/
def sout0_A_0 (c : Dev nD) (i : grid0.Coords) (arg1 : Memref sig .tc .smem S2 .f32) (harg1 : arg1.IsWhole) (arg2 : Memref sig .tc .smem S1 .f32) (harg2 : arg2.IsWhole) (arg3 : Memref sig .tc .vmem S128x2048 .i8) (harg3 : arg3.IsWhole) (arg4 : Memref sig .tc .vmem S128x256 .fp8e4m3) (harg4 : arg4.IsWhole) (arg5 : Memref sig .tc .vmem S512x2048 .i8) (harg5 : arg5.IsWhole) (arg6 : Memref sig .tc .vmem S512x256 .fp8e4m3) (harg6 : arg6.IsWhole) (arg7 : Memref sig .tc .vmem S128x512 .bf16) (harg7 : arg7.IsWhole) (arg8 : Memref sig .tc .vmem S128x4096 .bf16) (harg8 : arg8.IsWhole) (arg9 : Memref sig .tc .vmem S128x2x128 .bf16) (harg9 : arg9.IsWhole) (arg10 : Memref sig .tc .vmem S128x2x128 .bf16) (harg10 : arg10.IsWhole) (arg11 : Memref sig .tc .vmem S128x2x512 .bf16) (harg11 : arg11.IsWhole) (arg12 : Memref sig .tc .vmem S128x2x512 .bf16) (harg12 : arg12.IsWhole) (hc0 : cond0_0 i)
    (x0 : Vec F S2 .f32) (x1 : Vec F S1 .f32) (x2 : Vec F S128x2048 .i8) (x3 : Vec F S128x256 .fp8e4m3) (x4 : Vec F S512x2048 .i8) (x5 : Vec F S512x256 .fp8e4m3) : Vec F S128x4096 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5).2.1)

/-- Case B's pieces for output 6 tile its block (2 stores of `S64x512`, checked by the kernel's evaluation: Lib/Ring.lean `Piece.tiledL`, linear in the pieces, through a loop's `@[irreducible]` trip theorem too), so they cover it. -/
theorem cover0_B_6 (c : Dev nD) (i : grid0.Coords) (arg1 : Memref sig .tc .smem S2 .f32) (harg1 : arg1.IsWhole) (arg2 : Memref sig .tc .smem S1 .f32) (harg2 : arg2.IsWhole) (arg3 : Memref sig .tc .vmem S128x2048 .i8) (harg3 : arg3.IsWhole) (arg4 : Memref sig .tc .vmem S128x256 .fp8e4m3) (harg4 : arg4.IsWhole) (arg5 : Memref sig .tc .vmem S512x2048 .i8) (harg5 : arg5.IsWhole) (arg6 : Memref sig .tc .vmem S512x256 .fp8e4m3) (harg6 : arg6.IsWhole) (arg7 : Memref sig .tc .vmem S128x512 .bf16) (harg7 : arg7.IsWhole) (arg8 : Memref sig .tc .vmem S128x4096 .bf16) (harg8 : arg8.IsWhole) (arg9 : Memref sig .tc .vmem S128x2x128 .bf16) (harg9 : arg9.IsWhole) (arg10 : Memref sig .tc .vmem S128x2x128 .bf16) (harg10 : arg10.IsWhole) (arg11 : Memref sig .tc .vmem S128x2x512 .bf16) (harg11 : arg11.IsWhole) (arg12 : Memref sig .tc .vmem S128x2x512 .bf16) (harg12 : arg12.IsWhole) (hc0 : ¬cond0_0 i)
    (x0 : Vec F S2 .f32) (x1 : Vec F S1 .f32) (x2 : Vec F S128x2048 .i8) (x3 : Vec F S128x256 .fp8e4m3) (x4 : Vec F S512x2048 .i8) (x5 : Vec F S512x256 .fp8e4m3) (xs0 : Vec F S128x4096 .bf16) (y : S128x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs0).1 S64x512.size (by sl_kernel_rfl) y

/-- What case B leaves in output 6's staging buffer: its pieces read back over junk. -/
def out0_B_6 (c : Dev nD) (i : grid0.Coords) (arg1 : Memref sig .tc .smem S2 .f32) (harg1 : arg1.IsWhole) (arg2 : Memref sig .tc .smem S1 .f32) (harg2 : arg2.IsWhole) (arg3 : Memref sig .tc .vmem S128x2048 .i8) (harg3 : arg3.IsWhole) (arg4 : Memref sig .tc .vmem S128x256 .fp8e4m3) (harg4 : arg4.IsWhole) (arg5 : Memref sig .tc .vmem S512x2048 .i8) (harg5 : arg5.IsWhole) (arg6 : Memref sig .tc .vmem S512x256 .fp8e4m3) (harg6 : arg6.IsWhole) (arg7 : Memref sig .tc .vmem S128x512 .bf16) (harg7 : arg7.IsWhole) (arg8 : Memref sig .tc .vmem S128x4096 .bf16) (harg8 : arg8.IsWhole) (arg9 : Memref sig .tc .vmem S128x2x128 .bf16) (harg9 : arg9.IsWhole) (arg10 : Memref sig .tc .vmem S128x2x128 .bf16) (harg10 : arg10.IsWhole) (arg11 : Memref sig .tc .vmem S128x2x512 .bf16) (harg11 : arg11.IsWhole) (arg12 : Memref sig .tc .vmem S128x2x512 .bf16) (harg12 : arg12.IsWhole) (hc0 : ¬cond0_0 i)
    (x0 : Vec F S2 .f32) (x1 : Vec F S1 .f32) (x2 : Vec F S128x2048 .i8) (x3 : Vec F S128x256 .fp8e4m3) (x4 : Vec F S512x2048 .i8) (x5 : Vec F S512x256 .fp8e4m3) (xs0 : Vec F S128x4096 .bf16) : Vec F S128x512 .bf16 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 xs0).1)

/-- Case B stores nothing into scratch `arg8`: it holds what the point before left. -/
def sout0_B_0 (c : Dev nD) (i : grid0.Coords) (arg1 : Memref sig .tc .smem S2 .f32) (harg1 : arg1.IsWhole) (arg2 : Memref sig .tc .smem S1 .f32) (harg2 : arg2.IsWhole) (arg3 : Memref sig .tc .vmem S128x2048 .i8) (harg3 : arg3.IsWhole) (arg4 : Memref sig .tc .vmem S128x256 .fp8e4m3) (harg4 : arg4.IsWhole) (arg5 : Memref sig .tc .vmem S512x2048 .i8) (harg5 : arg5.IsWhole) (arg6 : Memref sig .tc .vmem S512x256 .fp8e4m3) (harg6 : arg6.IsWhole) (arg7 : Memref sig .tc .vmem S128x512 .bf16) (harg7 : arg7.IsWhole) (arg8 : Memref sig .tc .vmem S128x4096 .bf16) (harg8 : arg8.IsWhole) (arg9 : Memref sig .tc .vmem S128x2x128 .bf16) (harg9 : arg9.IsWhole) (arg10 : Memref sig .tc .vmem S128x2x128 .bf16) (harg10 : arg10.IsWhole) (arg11 : Memref sig .tc .vmem S128x2x512 .bf16) (harg11 : arg11.IsWhole) (arg12 : Memref sig .tc .vmem S128x2x512 .bf16) (harg12 : arg12.IsWhole) (hc0 : ¬cond0_0 i)
    (x0 : Vec F S2 .f32) (x1 : Vec F S1 .f32) (x2 : Vec F S128x2048 .i8) (x3 : Vec F S128x256 .fp8e4m3) (x4 : Vec F S512x2048 .i8) (x5 : Vec F S512x256 .fp8e4m3) (xs0 : Vec F S128x4096 .bf16) : Vec F S128x4096 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S128x512 .bf16 × Vec F S128x4096 .bf16
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 28 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2)

/-- `outsAt0` at a point of case A: that case's contents. -/
theorem outsAt0_A (c : Dev nD) (t : Fin cfg0.N) (h0 : t.val % 28 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 28 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 28 := lt_of_lt_of_eq t.isLt (show cfg0.N = 28 from N_0)
  by_cases h0 : t.val % 28 = 0
  · by_cases hz : t.val = 0
    · rw [PhiS_castSucc m c t, PhiS_zero m c _ _ hz, PhiA0_eq]
      rw [outsAt0_A m c t h0]
      unfold out0_A_6 sout0_A_0; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      isplitl [HS4]; · iexact HS4
      iintro ⟨H0, H1, H2, H3, H4, H5, ⟨%e6, H6⟩, ⟨%es0, HS0⟩, HS1, HS2, HS3, HS4⟩
      isplitl [HS0 HS1 HS2 HS3 HS4 Hg]
      · isplitl [HS0 HS1 HS2 HS3 HS4]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _)
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _ _)
    · exfalso; have hN : t.val < 28 := lt_of_lt_of_eq t.isLt (show cfg0.N = 28 from N_0); omega
  · by_cases hz : t.val = 0
    · exfalso; have hN : t.val < 28 := lt_of_lt_of_eq t.isLt (show cfg0.N = 28 from N_0); omega
    · rw [PhiS_castSucc m c t, PhiS_pos m c _ _ hz]
      rw [outsAt0_B m c t h0]
      unfold out0_B_6 sout0_B_0; (try dsimp only)
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      isplitl [HS4]; · iexact HS4
      iintro ⟨H0, H1, H2, H3, H4, H5, ⟨%e6, H6⟩, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_B_6 c _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexact HS1
    isplitl [HS2]
    · iexact HS2
    isplitl [HS3]
    · iexact HS3
    iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 28 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame claim of the idealized kernel: the run ends without fault, the arguments are as launched, and every semaphore
    counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Run

end
-- ==== Proof.Run.Value.lean ====
/- The idealized kernel's run, read: the result array after the run is, block by block, the output component of the state that
   the grid's points leave one after another (`G6`, `final6`, `run`). The text of the generated value module over
   Run/Frame.lean. -/
module

public import proofs.«01_k».proof.Proof.Run.Frame
public import Idealize.ShloMosaic.Lib.Pipeline.Value

@[expose] public section

noncomputable section

namespace Cert.KernelIdeal.Value

open Cert.KernelIdeal Cert.KernelIdeal.Gen Cert.KernelIdeal.Run Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the run's contents for that window after the body (`Gen.outsAt0`: its component 0), read through the window's block. -/
theorem flushed6 (c : Dev nD) (t : Fin cfg0.N) :
    (dats m 0 c).flushed 6 t = (cfg0.win 6).cut (grid0.coords t) ((outsAt0 m c t.val t.isLt).1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 28 = 0) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t)) := by
  simp only [flushed6, outsAt0_A m c t h0]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 28 = 0) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  simp only [flushed6, outsAt0_B m c t h0]

/-- The index map sends distinct grid points to distinct block indices (decided over the 28 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S128x14336.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v2) = (dats m 0 c).arrAt 6 cfg0.N :=
  (h c).1 6

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 0 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 0).trans (((dats m 0 c).arrAt_in 0 rfl _).trans ((A_eq m c 0).trans (V_main_arg2 m c)))

/-- After the frame run, argument `main_arg3` is as launched: input window 4 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 4).trans (((dats m 0 c).arrAt_in 4 rfl _).trans ((A_eq m c 4).trans (V_main_arg3 m c)))

/-- After the frame run, argument `main_arg4` is as launched: input window 5 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 5).trans (((dats m 0 c).arrAt_in 5 rfl _).trans ((A_eq m c 5).trans (V_main_arg4 m c)))

/-- After the frame run, argument `main_arg5` is as launched: input window 1 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 1).trans (((dats m 0 c).arrAt_in 1 rfl _).trans ((A_eq m c 1).trans (V_main_arg5 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      kept_main_arg0 m r h c,
      kept_main_arg1 m r h c,
      kept_main_arg2 m r h c,
      kept_main_arg3 m r h c,
      kept_main_arg4 m r h c,
      kept_main_arg5 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S128x4096 .bf16) : Vec F S128x4096 .bf16 :=
  if h0 : n % 28 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc

/-- WHAT CARRIED SCRATCH 0 HOLDS after point `t`: the fold of its run up to `t`, from the reset at the run's first point
    `28·(t / 28)` (Lib/Pipeline/Value.lean `Pipeline.eq_accAt_of_mod`, by the frame's `outsAt0_κ`; without enumerating the points). -/
theorem soutsAt0_0_eq (c : Dev nD) (t : Fin cfg0.N) :
    (outsAt0 m c t.val t.isLt).2 = Pipeline.accAt (fun n h => scAt0_0 m c n h (VS0_0.read (Elt F) VS0_0.junk)) (scAt0_0 m c) (28 * (t.val / 28)) (t.val % 28)
      (by have h1 := t.isLt; have h2 := Nat.div_add_mod t.val 28; omega) :=
  Pipeline.eq_accAt_of_mod (fun n h => (outsAt0 m c n h).2) 28 (fun n h => scAt0_0 m c n h (VS0_0.read (Elt F) VS0_0.junk)) (scAt0_0 m c)
    (fun n h hn => by
      have hN := lt_of_lt_of_eq h (show cfg0.N = 28 from N_0)
      by_cases h0 : n % 28 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 28 from N_0)
      by_cases h0 : (n + 1) % 28 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 28 from N_0)
  have hd : n / 28 = 0 := Nat.div_eq_of_lt hN
  have hm : n % 28 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S128x512 .bf16 × Vec F S128x4096 .bf16 :=
  ((VO0_6.read (Elt F) VO0_6.junk, VS0_0.read (Elt F) VS0_0.junk) : Vec F S128x512 .bf16 × Vec F S128x4096 .bf16)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S128x512 .bf16 × Vec F S128x4096 .bf16) : Vec F S128x512 .bf16 × Vec F S128x4096 .bf16 :=
  if h0 : n % 28 = 0 then
    (out0_A_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)))
  else
    (out0_B_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2)

/-- `stAt0` at a point of case A: that case's contents. -/
theorem stAt0_A (c : Dev nD) (t : Fin cfg0.N) (acc : Vec F S128x512 .bf16 × Vec F S128x4096 .bf16) (h0 : t.val % 28 = 0) :
    stAt0 m c t.val t.isLt acc = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) (iblk m c 5 t)) :=
  (dif_pos h0).trans rfl

/-- `stAt0` at a point of case B: that case's contents, over `acc`. -/
theorem stAt0_B (c : Dev nD) (t : Fin cfg0.N) (acc : Vec F S128x512 .bf16 × Vec F S128x4096 .bf16) (h0 : ¬t.val % 28 = 0) :
    stAt0 m c t.val t.isLt acc = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) acc.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) (iblk m c 5 t) acc.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 28 from N_0)
  have e := Pipeline.eq_accAt_of_mod (fun n h => outsAt0 m c n h) 28 (fun n h => stAt0 m c n h junk0) (stAt0 m c)
    (fun n h _ => by
      have hN := lt_of_lt_of_eq h (show cfg0.N = 28 from N_0)
      obtain rfl : n = 0 := by omega
      exact outsAt0_zero m c h)
    (fun n h _ => outsAt0_succ m c n h)
    (by decide) n hn (by have := Nat.div_add_mod n 28; omega)
  have hd : n / 28 = 0 := Nat.div_eq_of_lt hN
  have hm : n % 28 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 6 -/

/-- The block of the array that holds index `i`, numbered in the order the points write the blocks back (one per point),
    `i`'s place in it, and the point that writes it back. -/
abbrev run6Of (i : S128x14336.Idx) : ℕ := 28 * ((i 0).val / 128 - 0) + 1 * ((i 1).val / 512 - 0)
set_option backward.proofsInPublic true in
abbrev loc6Of (i : S128x14336.Idx) : S128x512.Idx := fun a => match a with
  | ⟨0, _⟩ => ⟨(i 0).val % 128, Nat.mod_lt _ (by decide)⟩
  | ⟨1, _⟩ => ⟨(i 1).val % 512, Nat.mod_lt _ (by decide)⟩
abbrev pt6Of (i : S128x14336.Idx) : ℕ := run6Of i

/-- WHAT THE ARRAY ENDS HOLDING at index `i` inside the box the flushing blocks fill: output 6's component of the carried
    state's fold at the point that writes `i`'s block back, at `i`'s place in the block. `G6` states the array's contents
    only inside the box. -/
def G6 (c : Dev nD) : Buf (Elt F) ((c : Thread nD τ).loc main_v2) := fun i =>
  if h : pt6Of i < cfg0.N then
    (Pipeline.accAt (fun n h => stAt0 m c n h junk0) (stAt0 m c) 0 (pt6Of i) (by omega)).1 (loc6Of i)
  else V m c (Pipeline.arrRef spec0 6) i

/-- The printed index map, decided over the grid: output window 6's block indices stay in the box, and the block number
    read off them is the point's (`t`). -/
theorem idx_facts6 : ∀ t : Fin cfg0.N, 0 ≤ win0_6.index t (0 : Fin 2) ∧ win0_6.index t (0 : Fin 2) ≤ 0
    ∧ 0 ≤ win0_6.index t (1 : Fin 2) ∧ win0_6.index t (1 : Fin 2) ≤ 27
    ∧ 28 * (win0_6.index t (0 : Fin 2) - 0) + 1 * (win0_6.index t (1 : Fin 2) - 0) = t.val :=
  (by decide +kernel : ∀ t : Fin grid0.N, _)

/-- Every block of the box is SOME flushing point's: `onto6Pt`, the point that writes back the block at place `q` of the box. -/
abbrev onto6Pt (q0 : Fin 1) (q1 : Fin 28) : Fin grid0.N :=
  ⟨28 * q0.val + 1 * q1.val, lt_of_lt_of_eq (by omega) N_0.symm⟩
theorem idx_onto6 : ∀ (q0 : Fin 1) (q1 : Fin 28), ∃ t : Fin cfg0.N, (cfg0.win 6).flush t = true ∧ win0_6.index t = ![q0.val + 0, q1.val + 0] :=
  fun q0 q1 => ⟨onto6Pt q0 q1, (by decide +kernel : ∀ (q0 : Fin 1) (q1 : Fin 28), win0_6.flush (onto6Pt q0 q1) = true ∧ win0_6.index (onto6Pt q0 q1) = ![q0.val + 0, q1.val + 0]) q0 q1⟩

/-- WHAT A FLUSHING POINT `t` WRITES BACK is block `t` of `G6`: output 6's component of the fold up to `t`. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6, outsAt0_sweep]
  obtain ⟨e0, e1, e2⟩ := idx_facts6 t
  funext y
  have hy0 : (y 0).val < 128 := (y 0).isLt
  have hy1 : (y 1).val < 512 := (y 1).isLt
  have hb0 : (((cfg0.win 6).blk t).view.emb y 0).val = win0_6.index t (0 : Fin 2) * 128 + 1 * (y 0).val := rfl
  have hb1 : (((cfg0.win 6).blk t).view.emb y 1).val = win0_6.index t (1 : Fin 2) * 512 + 1 * (y 1).val := rfl
  have hr : run6Of (((cfg0.win 6).blk t).view.emb y) = t.val := by
    show 28 * ((((cfg0.win 6).blk t).view.emb y 0).val / 128 - 0) + 1 * ((((cfg0.win 6).blk t).view.emb y 1).val / 512 - 0) = _
    rw [hb0, hb1]
    rw [show (win0_6.index t (0 : Fin 2) * 128 + 1 * (y 0).val) / 128 = win0_6.index t (0 : Fin 2) from by omega]; rw [show (win0_6.index t (1 : Fin 2) * 512 + 1 * (y 1).val) / 512 = win0_6.index t (1 : Fin 2) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 128 = (y 0).val; rw [hb0]; omega
    | ⟨1, _⟩ => show (((cfg0.win 6).blk t).view.emb y 1).val % 512 = (y 1).val; rw [hb1]; omega
  have hp : pt6Of (((cfg0.win 6).blk t).view.emb y) = t.val := by
    exact hr
  show (Pipeline.accAt (fun n h => stAt0 m c n h junk0) (stAt0 m c) 0 t.val _).1 ((cfg0.win 6).xinj (grid0.coords t) y) = G6 m c (((cfg0.win 6).blk t).view.emb y)
  unfold G6
  rw [dif_pos (by rw [hp]; exact t.isLt), hl, fold0_congr m c _ _ _ _ hp.symm]

/-- An index of the array is in point `t`'s block iff each coordinate is in the block's range on its axis. -/
theorem mem_blk6 (t : Fin cfg0.N) (i : S128x14336.Idx) :
    i ∈ ((cfg0.win 6).blk t).view.set ↔ ∀ a : Fin 2, win0_6.index t a * S128x512.size a ≤ (i a).val ∧ (i a).val < win0_6.index t a * S128x512.size a + S128x512.size a := by
  show i ∈ ((View.whole main_v2).slice (win0_6.rect t)).set ↔ _
  rw [View.set_slice_whole, Rect.mem_set_unit]
  exact Iff.rfl

/-- THE COVERED INDICES: in some flushing point's block iff inside the box those blocks fill. -/
theorem covered_iff6 (i : S128x14336.Idx) :
    (∃ t : Fin cfg0.N, (cfg0.win 6).flush t = true ∧ i ∈ ((cfg0.win 6).blk t).view.set) ↔ 0 ≤ (i 0).val ∧ (i 0).val < 128 ∧ 0 ≤ (i 1).val ∧ (i 1).val < 14336 := by
  constructor
  · rintro ⟨t, -, hi⟩
    rw [mem_blk6] at hi
    have b0 : win0_6.index t (0 : Fin 2) * 128 ≤ (i 0).val ∧ (i 0).val < win0_6.index t (0 : Fin 2) * 128 + 128 := hi 0
    have b1 : win0_6.index t (1 : Fin 2) * 512 ≤ (i 1).val ∧ (i 1).val < win0_6.index t (1 : Fin 2) * 512 + 512 := hi 1
    obtain ⟨e0, e1, e2⟩ := idx_facts6 t
    omega
  · intro h
    have hi0 : (i 0).val < 128 := (i 0).isLt
    have hi1 : (i 1).val < 14336 := (i 1).isLt
    obtain ⟨t, hft, ht⟩ := idx_onto6 ⟨(i 0).val / 128 - 0, by omega⟩ ⟨(i 1).val / 512 - 0, by omega⟩
    have q0 : win0_6.index t (0 : Fin 2) = (i 0).val / 128 - 0 + 0 := congrFun ht 0
    have q1 : win0_6.index t (1 : Fin 2) = (i 1).val / 512 - 0 + 0 := congrFun ht 1
    refine ⟨t, hft, ?_⟩
    rw [mem_blk6]
    intro a
    match a with
    | ⟨0, _⟩ => show win0_6.index t (0 : Fin 2) * 128 ≤ (i 0).val ∧ (i 0).val < win0_6.index t (0 : Fin 2) * 128 + 128; omega
    | ⟨1, _⟩ => show win0_6.index t (1 : Fin 2) * 512 ≤ (i 1).val ∧ (i 1).val < win0_6.index t (1 : Fin 2) * 512 + 512; omega

/-- THE ARRAY after the run: `G6` (the flushing blocks tile it). -/
theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 128 := (i 0).isLt; have h1 : (i 1).val < 14336 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v2) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post6 m r h c).trans (final6 m c),
      kept_main_arg0 m r h c,
      kept_main_arg1 m r h c,
      kept_main_arg2 m r h c,
      kept_main_arg3 m r h c,
      kept_main_arg4 m r h c,
      kept_main_arg5 m r h c⟩)
    (run_main m ρ)

end Cert.KernelIdeal.Value

end
-- ==== Proof.Block.lean ====
module

public import proofs.«01_k».proof.Proof.Gen.KernelIdeal.Loops
public import Idealize.ShloMosaic.PureOps.Ideal
public import Idealize.ShloMosaic.Lib.Tactic

/-! What one block of the kernel computes, as the operations it is made of: 128 rows of codes by 128 bytes of a row
    (256 values) decoded to a `[256, 128]` block whose column is the row of codes, each value times the scale of its
    group of sixteen. The text of the program repeats these operations for every block; here they are written once. -/

@[expose] public section

set_option maxRecDepth 16384

noncomputable section

open Idealize.ShloMosaic Idealize.ShloMosaic.TcCoe Idealize.SL.Sem

namespace Cert.KernelIdeal.Block

open Cert.KernelIdeal Cert.KernelIdeal.Gen

/-- The bf16 bits of the e2m1 number in the low four bits of each word. -/
def nibBits (n : IVec S128x128 32) : IVec S128x128 32 :=
  ori
    (select (cmpi .sgt (andi n (broadcast S128x128 7#32)) (broadcast S128x128 1#32))
      (addi (shli (andi n (broadcast S128x128 7#32)) (broadcast S128x128 6#32)) (broadcast S128x128 16128#32))
      (muli (andi n (broadcast S128x128 7#32)) (broadcast S128x128 16128#32)))
    (shli (andi n (broadcast S128x128 8#32)) (broadcast S128x128 12#32))

/-- Two bf16 bit patterns in a word: the low nibble's below the high nibble's. -/
def pairBits (w : IVec S128x128 32) : IVec S128x128 32 :=
  ori (nibBits (andi w (broadcast S128x128 15#32)))
    (shli (nibBits (shrsi w (broadcast S128x128 4#32))) (broadcast S128x128 16#32))

/-- The decoded values of a block of codes, transposed: row `2 j + h` is nibble `h` of byte `j`. -/
def decV (c : Vec Ideal S128x128 .i8) : FVec Ideal S256x128 .bf16 :=
  bitcastToFloat .bf16 (bitcast S256x128 16
    (pairBits (extui 32 (transpose S128x128 [1, 0] c transposes_S128x128_p1_0_S128x128) (by decide)))
    bitcasts_S128x128_w32_S256x128_w16)

/-- One row of scales repeated for the sixteen values of its group. -/
def dup (raw : Vec Ideal S1x2x128 .bf16) : FVec Ideal S16x128 .bf16 :=
  have lo : FVec Ideal S1x128 .bf16 := shapeCast S1x128 (rowsOfParity 0 S1x1x128 raw bitcasts_S1x2x128_w16_S1x1x128_w32) shapeCasts_S1x1x128_S1x128
  have hi : FVec Ideal S1x128 .bf16 := shapeCast S1x128 (rowsOfParity 1 S1x1x128 raw bitcasts_S1x2x128_w16_S1x1x128_w32) shapeCasts_S1x1x128_S1x128
  interleaveRows S16x128
    (concatenate S8x128 0 [⟨S1x128, lo⟩, ⟨S1x128, lo⟩, ⟨S1x128, lo⟩, ⟨S1x128, lo⟩, ⟨S1x128, lo⟩, ⟨S1x128, lo⟩, ⟨S1x128, lo⟩, ⟨S1x128, lo⟩] concatenates_S1x128_S1x128_S1x128_S1x128_S1x128_S1x128_S1x128_S1x128_S8x128_d0)
    (concatenate S8x128 0 [⟨S1x128, hi⟩, ⟨S1x128, hi⟩, ⟨S1x128, hi⟩, ⟨S1x128, hi⟩, ⟨S1x128, hi⟩, ⟨S1x128, hi⟩, ⟨S1x128, hi⟩, ⟨S1x128, hi⟩] concatenates_S1x128_S1x128_S1x128_S1x128_S1x128_S1x128_S1x128_S1x128_S8x128_d0)
    bitcasts_S16x128_w16_S8x128_w32

/-- A block of 256 rows has sixteen groups of sixteen rows. -/
theorem slices16 (b : Fin 16) : S256x128.Slices ![16 * b.val, 0] S16x128 := by
  revert b; decide

/-- Group `b` of the block: its sixteen rows, times their scales. -/
def part (c : Vec Ideal S128x128 .i8) (r : Fin 16 → Vec Ideal S1x2x128 .bf16) (b : Fin 16) : FVec Ideal S16x128 .bf16 :=
  mulf (extractStridedSlice S16x128 ![16 * b.val, 0] (decV c) (slices16 b)) (dup (r b))

/-- The block: its sixteen groups, one below the other. -/
def decT (c : Vec Ideal S128x128 .i8) (r : Fin 16 → Vec Ideal S1x2x128 .bf16) : FVec Ideal S256x128 .bf16 :=
  concatenate S256x128 0
    [⟨S16x128, part c r 0⟩, ⟨S16x128, part c r 1⟩, ⟨S16x128, part c r 2⟩, ⟨S16x128, part c r 3⟩,
     ⟨S16x128, part c r 4⟩, ⟨S16x128, part c r 5⟩, ⟨S16x128, part c r 6⟩, ⟨S16x128, part c r 7⟩,
     ⟨S16x128, part c r 8⟩, ⟨S16x128, part c r 9⟩, ⟨S16x128, part c r 10⟩, ⟨S16x128, part c r 11⟩,
     ⟨S16x128, part c r 12⟩, ⟨S16x128, part c r 13⟩, ⟨S16x128, part c r 14⟩, ⟨S16x128, part c r 15⟩]
    concatenates_S16x128_S16x128_S16x128_S16x128_S16x128_S16x128_S16x128_S16x128_S16x128_S16x128_S16x128_S16x128_S16x128_S16x128_S16x128_S16x128_S256x128_d0

/-- Even groups take their scales from one list of rows, odd groups from another. -/
def alt {α : Type} (e o : Fin 8 → α) (b : Fin 16) : α :=
  if b.val % 2 = 0 then e ⟨b.val / 2, by omega⟩ else o ⟨b.val / 2, by omega⟩

section Trip

variable (𝒱 : Variants) (c : Dev nD) (bd : Option 𝒱.V) (i : grid0.Coords)
  (arg1 : Memref sig .tc .smem S2 .f32) (harg1 : arg1.IsWhole) (arg2 : Memref sig .tc .smem S1 .f32) (harg2 : arg2.IsWhole)
  (arg3 : Memref sig .tc .vmem S128x2048 .i8) (harg3 : arg3.IsWhole) (arg4 : Memref sig .tc .vmem S128x256 .fp8e4m3) (harg4 : arg4.IsWhole)
  (arg5 : Memref sig .tc .vmem S512x2048 .i8) (harg5 : arg5.IsWhole) (arg6 : Memref sig .tc .vmem S512x256 .fp8e4m3) (harg6 : arg6.IsWhole)
  (arg7 : Memref sig .tc .vmem S128x512 .bf16) (harg7 : arg7.IsWhole) (arg8 : Memref sig .tc .vmem S128x4096 .bf16) (harg8 : arg8.IsWhole)
  (arg9 : Memref sig .tc .vmem S128x2x128 .bf16) (harg9 : arg9.IsWhole) (arg10 : Memref sig .tc .vmem S128x2x128 .bf16) (harg10 : arg10.IsWhole)
  (arg11 : Memref sig .tc .vmem S128x2x512 .bf16) (harg11 : arg11.IsWhole) (arg12 : Memref sig .tc .vmem S128x2x512 .bf16) (harg12 : arg12.IsWhole)

/-- Trip `k` of the loop of products: the carried sum plus the product of a block of x by the four blocks of w. -/
theorem tripR_eq (X5 : BufTy.Contents (Elt Ideal) arg5.view.ty) (X8 : BufTy.Contents (Elt Ideal) arg8.view.ty)
    (X11 : BufTy.Contents (Elt Ideal) arg11.view.ty) (X12 : BufTy.Contents (Elt Ideal) arg12.view.ty)
    (k : Fin k0_t2_loop.trips) (acc : FVec Ideal S128x512 .f32) :
    tripR_k0_t2 (F := Ideal) 𝒱 c bd i arg1 harg1 arg2 harg2 arg3 harg3 arg4 harg4 arg5 harg5 arg6 harg6 arg7 harg7 arg8 harg8 arg9 harg9 arg10 harg10 arg11 harg11 arg12 harg12 X5 X8 X11 X12 k acc
      = k0_pay129 acc
        (decT (View.readAt (Elt Ideal) arg5.view (Rect.unit (s := S512x2048) (k0_off4 k) S128x128.size (facts.k0_off4_inb k)).toLoadRect X5)
          (alt (fun b => View.readAt (Elt Ideal) arg11.view (Rect.unit (s := S128x2x512) (k0_off5 k (BitVec.ofNat 32 b.val)) S1x2x128.size (facts.k0_off5_inb k b)).toLoadRect X11)
            (fun b => View.readAt (Elt Ideal) arg12.view (Rect.unit (s := S128x2x512) (k0_off5 k (BitVec.ofNat 32 b.val)) S1x2x128.size (facts.k0_off5_inb k b)).toLoadRect X12)))
        (decT (View.readAt (Elt Ideal) arg5.view (Rect.unit (s := S512x2048) (k0_off6 k) S128x128.size (facts.k0_off6_inb k)).toLoadRect X5)
          (alt (fun b => View.readAt (Elt Ideal) arg11.view (Rect.unit (s := S128x2x512) (k0_off7 k (BitVec.ofNat 32 b.val)) S1x2x128.size (facts.k0_off7_inb k b)).toLoadRect X11)
            (fun b => View.readAt (Elt Ideal) arg12.view (Rect.unit (s := S128x2x512) (k0_off7 k (BitVec.ofNat 32 b.val)) S1x2x128.size (facts.k0_off7_inb k b)).toLoadRect X12)))
        (decT (View.readAt (Elt Ideal) arg5.view (Rect.unit (s := S512x2048) (k0_off8 k) S128x128.size (facts.k0_off8_inb k)).toLoadRect X5)
          (alt (fun b => View.readAt (Elt Ideal) arg11.view (Rect.unit (s := S128x2x512) (k0_off9 k (BitVec.ofNat 32 b.val)) S1x2x128.size (facts.k0_off9_inb k b)).toLoadRect X11)
            (fun b => View.readAt (Elt Ideal) arg12.view (Rect.unit (s := S128x2x512) (k0_off9 k (BitVec.ofNat 32 b.val)) S1x2x128.size (facts.k0_off9_inb k b)).toLoadRect X12)))
        (decT (View.readAt (Elt Ideal) arg5.view (Rect.unit (s := S512x2048) (k0_off10 k) S128x128.size (facts.k0_off10_inb k)).toLoadRect X5)
          (alt (fun b => View.readAt (Elt Ideal) arg11.view (Rect.unit (s := S128x2x512) (k0_off11 k (BitVec.ofNat 32 b.val)) S1x2x128.size (facts.k0_off11_inb k b)).toLoadRect X11)
            (fun b => View.readAt (Elt Ideal) arg12.view (Rect.unit (s := S128x2x512) (k0_off11 k (BitVec.ofNat 32 b.val)) S1x2x128.size (facts.k0_off11_inb k b)).toLoadRect X12)))
        (View.readAt (Elt Ideal) arg8.view (Rect.unit (s := S128x4096) (k0_off12 k) S128x256.size (facts.k0_off12_inb k)).toLoadRect X8) := by
  unfold tripR_k0_t2 trip_k0_t2; dsimp only; sl_unfold_words
  rfl

/-- Trip `k` of the loop that decodes x: one piece of the buffer of x, the block transposed back. -/
theorem tripL_eq (hc0 : k0_cond1 i = 1#1) (X3 : BufTy.Contents (Elt Ideal) arg3.view.ty)
    (X9 : BufTy.Contents (Elt Ideal) arg9.view.ty) (X10 : BufTy.Contents (Elt Ideal) arg10.view.ty) (k : Fin k0_t1_loop.trips) :
    tripL_k0_t1 (F := Ideal) 𝒱 c bd i arg1 harg1 arg2 harg2 arg3 harg3 arg4 harg4 arg5 harg5 arg6 harg6 arg7 harg7 arg8 harg8 arg9 harg9 arg10 harg10 arg11 harg11 arg12 harg12 hc0 X3 X9 X10 k
      = [⟨Rect.unit (s := S128x4096) (k0_off3 k) S128x256.size (facts.k0_off3_inb i k hc0),
          k0_pay109 (transpose S128x256 [1, 0]
            (decT (shapeCast S128x128 (View.readAt (Elt Ideal) arg3.view (Rect.unit (s := S128x2048) (k0_off1 k) S128x128.size (facts.k0_off1_inb i k hc0)).toLoadRect X3) shapeCasts_S128x128_S128x128)
              (alt (fun b => View.readAt (Elt Ideal) arg9.view (Rect.unit (s := S128x2x128) (k0_off2 k (BitVec.ofNat 32 b.val)) S1x2x128.size (facts.k0_off2_inb i k hc0 b)).toLoadRect X9)
                (fun b => View.readAt (Elt Ideal) arg10.view (Rect.unit (s := S128x2x128) (k0_off2 k (BitVec.ofNat 32 b.val)) S1x2x128.size (facts.k0_off2_inb i k hc0 b)).toLoadRect X10)))
            (by decide))⟩] := by
  unfold tripL_k0_t1 trip_k0_t1; dsimp only; sl_unfold_words
  rfl

end Trip

end Cert.KernelIdeal.Block
-- ==== Proof.BlockRead.lean ====
module

public import proofs.«01_k».proof.Proof.Block
public import Idealize.ShloMosaic.Lib.ValueIdx
public import Idealize.ShloMosaic.Lib.Pipeline.Value
public import Idealize.ShloMosaic.Lib.BitcastPair
public import Idealize.ShloMosaic.Lib.MatmulPlain

/-! The block of `Block` read at an index: row `q` of the column of codes `l` is nibble `q % 2` of byte `q / 2`, decoded,
    times the scale of group `q / 16`. -/

@[expose] public section

set_option maxRecDepth 16384

noncomputable section

open Idealize.ShloMosaic Idealize.ShloMosaic.TcCoe Idealize.SL.Sem Idealize.ShloMosaic.ValueIdx

namespace Cert.KernelIdeal.Block

open Cert.KernelIdeal Cert.KernelIdeal.Gen

/-- The bf16 bits of the e2m1 number in the low four bits of a word. -/
def nibBits1 (n : BitVec 32) : BitVec 32 :=
  IntOp.ori
    (Scalar.select (IntOp.cmpi .sgt (IntOp.andi n 7#32) 1#32)
      (IntOp.addi (IntOp.shli .vector (IntOp.andi n 7#32) 6#32) 16128#32) (IntOp.muli (IntOp.andi n 7#32) 16128#32))
    (IntOp.shli .vector (IntOp.andi n 8#32) 12#32)

/-- Two bf16 bit patterns in a word: the low nibble's below the high nibble's. -/
def pairBits1 (w : BitVec 32) : BitVec 32 :=
  IntOp.ori (nibBits1 (IntOp.andi w 15#32)) (IntOp.shli .vector (nibBits1 (IntOp.shrsi .vector w 4#32)) 16#32)

/-- The value of nibble `h` of a byte. -/
def dec (h : Nat) (b : BitVec 8) : EReal := Ideal.ofBits .bf16 ((pairBits1 (b.setWidth 32)).extractLsb' (16 * h) 16)

/-- The pairs of bit patterns of a block, element by element. -/
theorem pairBits_apply (w : IVec S128x128 32) (j : S128x128.Idx) : pairBits w j = pairBits1 (w j) := rfl

/-- The decoded, transposed block of codes: row `q` is nibble `q % 2` of byte `q / 2`. -/
theorem decV_apply (c : Vec Ideal S128x128 .i8) (q : Fin 256) (l : Fin 128) :
    decV c (ix2 q l) = dec (q.val % 2) (c (ix2 l ⟨q.val / 2, by omega⟩)) := by
  unfold decV dec
  show Ideal.ofBits .bf16 _ = _
  congr 1
  rw [bitcast_32_16, pairBits_apply, extui_apply]
  have hrow : (S256x128.row (ix2 q l)) = q.val := rfl
  have hi : ∀ h, bitcasts_S128x128_w32_S256x128_w16.srcIdx (ix2 q l) (S256x128.row (ix2 q l) / 2) h = ix2 (⟨q.val / 2, by omega⟩ : Fin 128) l := by
    intro h; funext a; match a with | ⟨0, _⟩ => rfl | ⟨1, _⟩ => rfl
  rw [hi]
  have ht : transpose S128x128 [1, 0] c transposes_S128x128_p1_0_S128x128 (ix2 (⟨q.val / 2, by omega⟩ : Fin 128) l)
      = c (ix2 l ⟨q.val / 2, by omega⟩) := by
    unfold transpose
    congr 1; funext a; match a with | ⟨0, _⟩ => rfl | ⟨1, _⟩ => rfl
  rw [ht, hrow]

/-- A pair of scale rows spread over sixteen rows: the even rows have the first, the odd rows the second. -/
theorem dup_apply (raw : Vec Ideal S1x2x128 .bf16) (q : Fin 16) (l : Fin 128) :
    dup raw (ix2 q l) = raw (ix3 0 ⟨q.val % 2, by omega⟩ l) := by
  have hp : ∀ p : Fin 2, ∀ k : Fin 8,
      concatenate S8x128 0 (List.replicate 8 (⟨S1x128, shapeCast S1x128 (rowsOfParity p S1x1x128 raw bitcasts_S1x2x128_w16_S1x1x128_w32) shapeCasts_S1x1x128_S1x128⟩ : (s : Shape) × (s.Idx → EReal)))
        concatenates_S1x128_S1x128_S1x128_S1x128_S1x128_S1x128_S1x128_S1x128_S8x128_d0 (ix2 k l) = raw (ix3 0 p l) := by
    intro p k
    rw [concatenate_replicate_apply (s₁ := S1x128) (0 : Fin S8x128.rank) 8 _ _ rfl (ix2 k l) (ix2 0 l) (by simp [S1x128]; omega)
      (fun b hb => by match b with | ⟨0, _⟩ => exact absurd rfl hb | ⟨1, _⟩ => rfl)]
    unfold shapeCast
    rw [Shape.reshapeEquiv_eq_of_rowMajor (y := (ix3 0 0 l : S1x1x128.Idx))]
    · unfold rowsOfParity
      congr 1; funext a; match a with | ⟨0, _⟩ => rfl | ⟨1, _⟩ => simp; rfl | ⟨2, _⟩ => rfl
    · simp [Shape.rowMajor_val_two, Shape.rowMajor_val_three]
  have hrow : S16x128.row (ix2 q l) = q.val := rfl
  unfold dup interleaveRows
  dsimp only
  rw [hrow]
  split
  · rename_i h
    rw [show (⟨q.val % 2, by omega⟩ : Fin 2) = 0 from Fin.ext h]
    refine Eq.trans (congrArg _ ?_) (hp 0 ⟨q.val / 2, by omega⟩)
    funext a; match a with | ⟨0, _⟩ => rfl | ⟨1, _⟩ => rfl
  · rename_i h
    rw [show (⟨q.val % 2, by omega⟩ : Fin 2) = 1 from Fin.ext (by simp; omega)]
    refine Eq.trans (congrArg _ ?_) (hp 1 ⟨q.val / 2, by omega⟩)
    funext a; match a with | ⟨0, _⟩ => rfl | ⟨1, _⟩ => rfl

/-- The decoded block times its scales, row by row. -/
theorem decT_apply (c : Vec Ideal S128x128 .i8) (r : Fin 16 → Vec Ideal S1x2x128 .bf16) (q : Fin 256) (l : Fin 128) :
    decT c r (ix2 q l) = dec (q.val % 2) (c (ix2 l ⟨q.val / 2, by omega⟩))
      * r ⟨q.val / 16, by omega⟩ (ix3 0 ⟨q.val % 2, by omega⟩ l) := by
  have hd : decT c r (ix2 q l) = part c r ⟨q.val / 16, by omega⟩ (ix2 ⟨q.val % 16, by omega⟩ l) :=
    concatenate_ofFn_apply (t := S256x128) (s₁ := S16x128) (0 : Fin S256x128.rank) (part c r)
      concatenates_S16x128_S16x128_S16x128_S16x128_S16x128_S16x128_S16x128_S16x128_S16x128_S16x128_S16x128_S16x128_S16x128_S16x128_S16x128_S16x128_S256x128_d0
      rfl 16 rfl (ix2 q l) ⟨q.val / 16, by omega⟩ rfl (ix2 ⟨q.val % 16, by omega⟩ l) rfl
      (fun b hb => by match b with | ⟨0, _⟩ => exact absurd rfl hb | ⟨1, _⟩ => rfl)
  rw [hd]
  unfold part
  rw [mulf_apply, dup_apply]
  have hs : extractStridedSlice S16x128 ![16 * (q.val / 16), 0] (decV c) (slices16 ⟨q.val / 16, by omega⟩) (ix2 ⟨q.val % 16, by omega⟩ l)
      = decV c (ix2 q l) := by
    unfold extractStridedSlice
    congr 1; funext a
    match a with
    | ⟨0, _⟩ => exact Fin.ext (by show 16 * (q.val / 16) + q.val % 16 = q.val; omega)
    | ⟨1, _⟩ => exact Fin.ext (by show 0 + l.val = l.val; omega)
  rw [hs, decV_apply]
  congr 3
  exact Fin.ext (by show q.val % 16 % 2 = q.val % 2; omega)

end Cert.KernelIdeal.Block
-- ==== Proof.Trip.lean ====
module

public import proofs.«01_k».proof.Proof.BlockRead

/-! One trip of each of the kernel's two loops, as numbers: a block of the decoded row, and one block's share of a dot
    product. -/

@[expose] public section

set_option maxRecDepth 16384

noncomputable section

open Idealize.ShloMosaic Idealize.ShloMosaic.TcCoe Idealize.SL.Sem Idealize.ShloMosaic.ValueIdx

namespace Cert.KernelIdeal.Block

open Cert.KernelIdeal Cert.KernelIdeal.Gen

/-- The dequantised row: value `k` is nibble `k % 2` of byte `k / 2`, times the scale of group `k / 16`. -/
def deq (cd : Fin 2048 → BitVec 8) (sc : Fin 256 → EReal) (k : Fin 4096) : EReal :=
  dec (k.val % 2) (cd ⟨k.val / 2, by omega⟩) * sc ⟨k.val / 16, by omega⟩

/-- Value `r` of the `k`-th block of 256. -/
abbrev at256 (k : Fin 16) (r : Fin 256) : Fin 4096 := ⟨256 * k.val + r.val, by omega⟩

/-- A decoded block is a block of the dequantised row. -/
theorem decT_deq (c : Vec Ideal S128x128 .i8) (e o : Fin 8 → Vec Ideal S1x2x128 .bf16) (cd : Fin 2048 → BitVec 8) (sc : Fin 256 → EReal)
    (k : Fin 16) (l : Fin 128) (hc : ∀ j : Fin 128, c (ix2 l j) = cd ⟨128 * k.val + j.val, by omega⟩)
    (he : ∀ (b : Fin 8) (p : Fin 2), e b (ix3 0 p l) = sc ⟨2 * (8 * k.val + b.val), by omega⟩)
    (ho : ∀ (b : Fin 8) (p : Fin 2), o b (ix3 0 p l) = sc ⟨2 * (8 * k.val + b.val) + 1, by omega⟩) (q : Fin 256) :
    decT c (alt e o) (ix2 q l) = deq cd sc (at256 k q) := by
  rw [decT_apply, hc]
  unfold deq
  have h1 : (256 * k.val + q.val) % 2 = q.val % 2 := by omega
  have h2 : (256 * k.val + q.val) / 2 = 128 * k.val + q.val / 2 := by omega
  have h3 : alt e o ⟨q.val / 16, by omega⟩ (ix3 0 ⟨q.val % 2, by omega⟩ l) = sc ⟨(256 * k.val + q.val) / 16, by omega⟩ := by
    unfold alt
    split
    · rename_i h
      dsimp only at h
      rw [he]; congr 1; apply Fin.ext; show 2 * (8 * k.val + q.val / 16 / 2) = (256 * k.val + q.val) / 16; omega
    · rename_i h
      dsimp only at h
      rw [ho]; congr 1; apply Fin.ext; show 2 * (8 * k.val + q.val / 16 / 2) + 1 = (256 * k.val + q.val) / 16; omega
  rw [h3]
  simp only [h1, h2]

/-- The carried sum of a trip, at an index. -/
theorem pay129_apply (acc : FVec Ideal S128x512 .f32) (w : Fin 4 → FVec Ideal S256x128 .bf16) (x : Vec Ideal S128x256 .bf16)
    (s : Fin 128) (n : Fin 512) :
    k0_pay129 acc (w 0) (w 1) (w 2) (w 3) x (ix2 s n)
      = acc (ix2 s n) + ∑ r : Fin 256, x (ix2 s r) * w ⟨n.val / 128, by omega⟩ (ix2 r ⟨n.val % 128, by omega⟩) := by
  unfold k0_pay129
  rw [addf_apply]
  congr 1
  have h := Ideal.matmul_plain_apply (M := 128) (K := 256) (N := 512) (φ₁ := .bf16) (φ₂ := .bf16) none x
    (concatenate S256x512 1 [⟨S256x128, w 0⟩, ⟨S256x128, w 1⟩, ⟨S256x128, w 2⟩, ⟨S256x128, w 3⟩] concatenates_S256x128_S256x128_S256x128_S256x128_S256x512_d1)
    (constant S128x512 .f32 0x00000000#32) s n
  refine Eq.trans h ?_
  rw [constant_apply, show Ideal.ofBits .f32 0x00000000#32 = 0 from by simp, zero_add]
  refine Finset.sum_congr rfl fun r _ => ?_
  congr 1
  exact concatenate_ofFn_apply (t := S256x512) (s₁ := S256x128) (1 : Fin S256x512.rank) w
    concatenates_S256x128_S256x128_S256x128_S256x128_S256x512_d1 rfl 128 rfl (ix2 r n) ⟨n.val / 128, by omega⟩ rfl
    (ix2 r ⟨n.val % 128, by omega⟩) rfl
    (fun b hb => by match b with | ⟨1, _⟩ => exact absurd rfl hb | ⟨0, _⟩ => rfl)

/-- The same, each block of w given by its entries. -/
theorem pay129_of (acc : FVec Ideal S128x512 .f32) (w0 w1 w2 w3 : FVec Ideal S256x128 .bf16) (x : Vec Ideal S128x256 .bf16)
    (f : Fin 512 → Fin 256 → EReal)
    (h0 : ∀ r l, w0 (ix2 r l) = f ⟨128 * 0 + l.val, by omega⟩ r) (h1 : ∀ r l, w1 (ix2 r l) = f ⟨128 * 1 + l.val, by omega⟩ r)
    (h2 : ∀ r l, w2 (ix2 r l) = f ⟨128 * 2 + l.val, by omega⟩ r) (h3 : ∀ r l, w3 (ix2 r l) = f ⟨128 * 3 + l.val, by omega⟩ r)
    (s : Fin 128) (n : Fin 512) :
    k0_pay129 acc w0 w1 w2 w3 x (ix2 s n) = acc (ix2 s n) + ∑ r : Fin 256, x (ix2 s r) * f n r := by
  refine (pay129_apply acc ![w0, w1, w2, w3] x s n).trans ?_
  congr 1
  refine Finset.sum_congr rfl fun r _ => congrArg _ ?_
  have hw : ∀ (m : Fin 4) (l : Fin 128), (![w0, w1, w2, w3] : Fin 4 → FVec Ideal S256x128 .bf16) m (ix2 r l) = f ⟨128 * m.val + l.val, by omega⟩ r := by
    intro m l
    match m with
    | ⟨0, _⟩ => exact h0 r l
    | ⟨1, _⟩ => exact h1 r l
    | ⟨2, _⟩ => exact h2 r l
    | ⟨3, _⟩ => exact h3 r l
  rw [hw]
  congr 1
  exact Fin.ext (by show 128 * (n.val / 128) + n.val % 128 = n.val; omega)

/-- Trip `k` of the first loop reads the codes from column `128 k`. -/
theorem off1_eq : ∀ k : Fin k0_t1_loop.trips, k0_off1 k = ![0, 128 * k.val] := by decide +kernel
/-- Trip `k` of the first loop reads its scale words from row `8 k + b`. -/
theorem off2_eq : ∀ (k : Fin k0_t1_loop.trips) (b : Fin 8), k0_off2 k (BitVec.ofNat 32 b.val) = ![8 * k.val + b.val, 0, 0] := by decide +kernel
/-- Trip `k` of the first loop stores its block from column `256 k` of the scratch. -/
theorem off3_eq : ∀ k : Fin k0_t1_loop.trips, k0_off3 k = ![0, 256 * k.val] := by decide +kernel
/-- Trip `k` of the second loop reads the codes of weight rows 0 … 127 from column `128 k`. -/
theorem off4_eq : ∀ k : Fin k0_t2_loop.trips, k0_off4 k = ![0, 128 * k.val] := by decide +kernel
/-- Trip `k` of the second loop reads the scale words of weight rows 0 … 127 from row `8 k + b`. -/
theorem off5_eq : ∀ (k : Fin k0_t2_loop.trips) (b : Fin 8), k0_off5 k (BitVec.ofNat 32 b.val) = ![8 * k.val + b.val, 0, 0] := by decide +kernel
/-- Trip `k` of the second loop reads the codes of weight rows 128 … 255 from column `128 k`. -/
theorem off6_eq : ∀ k : Fin k0_t2_loop.trips, k0_off6 k = ![128, 128 * k.val] := by decide +kernel
/-- Trip `k` of the second loop reads the scale words of weight rows 128 … 255 from row `8 k + b`. -/
theorem off7_eq : ∀ (k : Fin k0_t2_loop.trips) (b : Fin 8), k0_off7 k (BitVec.ofNat 32 b.val) = ![8 * k.val + b.val, 0, 128] := by decide +kernel
/-- Trip `k` of the second loop reads the codes of weight rows 256 … 383 from column `128 k`. -/
theorem off8_eq : ∀ k : Fin k0_t2_loop.trips, k0_off8 k = ![256, 128 * k.val] := by decide +kernel
/-- Trip `k` of the second loop reads the scale words of weight rows 256 … 383 from row `8 k + b`. -/
theorem off9_eq : ∀ (k : Fin k0_t2_loop.trips) (b : Fin 8), k0_off9 k (BitVec.ofNat 32 b.val) = ![8 * k.val + b.val, 0, 256] := by decide +kernel
/-- Trip `k` of the second loop reads the codes of weight rows 384 … 511 from column `128 k`. -/
theorem off10_eq : ∀ k : Fin k0_t2_loop.trips, k0_off10 k = ![384, 128 * k.val] := by decide +kernel
/-- Trip `k` of the second loop reads the scale words of weight rows 384 … 511 from row `8 k + b`. -/
theorem off11_eq : ∀ (k : Fin k0_t2_loop.trips) (b : Fin 8), k0_off11 k (BitVec.ofNat 32 b.val) = ![8 * k.val + b.val, 0, 384] := by decide +kernel
/-- Trip `k` of the second loop reads the activations from column `256 k` of the scratch. -/
theorem off12_eq : ∀ k : Fin k0_t2_loop.trips, k0_off12 k = ![0, 256 * k.val] := by decide +kernel

/-- A block loaded of a two-axis buffer, at an index. -/
theorem readAt2 {d0 d1 t0 t1 : Nat} {e : EltTy} {sp : Space} (arg : Memref sig .tc sp ⟨2, ![d0, d1]⟩ e)
    (X : BufTy.Contents (Elt Ideal) arg.view.ty) (off : Fin 2 → Nat) (h : ∀ a, off a + (![t0, t1] : Fin 2 → Nat) a ≤ (⟨2, ![d0, d1]⟩ : Shape).size a)
    (a b : Nat) (ho : off = ![a, b]) (i : Fin t0) (j : Fin t1) (i' : Fin d0) (j' : Fin d1) (hi : i'.val = a + i.val) (hj : j'.val = b + j.val) :
    View.readAt (Elt Ideal) arg.view (Rect.unit (s := ⟨2, ![d0, d1]⟩) off ![t0, t1] h).toLoadRect X (ix2 i j)
      = arg.view.read (Elt Ideal) X (ix2 i' j') := by
  subst ho
  rw [View.readAt_apply]
  congr 1; funext c
  match c with
  | ⟨0, _⟩ => exact Fin.ext (by show a + 1 * i.val = i'.val; omega)
  | ⟨1, _⟩ => exact Fin.ext (by show b + 1 * j.val = j'.val; omega)

/-- A block loaded of a three-axis buffer, at an index. -/
theorem readAt3 {d0 d1 d2 t0 t1 t2 : Nat} {e : EltTy} {sp : Space} (arg : Memref sig .tc sp ⟨3, ![d0, d1, d2]⟩ e)
    (X : BufTy.Contents (Elt Ideal) arg.view.ty) (off : Fin 3 → Nat) (h : ∀ a, off a + (![t0, t1, t2] : Fin 3 → Nat) a ≤ (⟨3, ![d0, d1, d2]⟩ : Shape).size a)
    (a b c : Nat) (ho : off = ![a, b, c]) (i : Fin t0) (j : Fin t1) (l : Fin t2) (i' : Fin d0) (j' : Fin d1) (l' : Fin d2)
    (hi : i'.val = a + i.val) (hj : j'.val = b + j.val) (hl : l'.val = c + l.val) :
    View.readAt (Elt Ideal) arg.view (Rect.unit (s := ⟨3, ![d0, d1, d2]⟩) off ![t0, t1, t2] h).toLoadRect X (ix3 i j l)
      = arg.view.read (Elt Ideal) X (ix3 i' j' l') := by
  subst ho
  rw [View.readAt_apply]
  congr 1; funext x
  match x with
  | ⟨0, _⟩ => exact Fin.ext (by show a + 1 * i.val = i'.val; omega)
  | ⟨1, _⟩ => exact Fin.ext (by show b + 1 * j.val = j'.val; omega)
  | ⟨2, _⟩ => exact Fin.ext (by show c + 1 * l.val = l'.val; omega)

/-- The first loop makes sixteen trips. -/
theorem trips1 : k0_t1_loop.trips = 16 := by decide +kernel
/-- The second loop makes sixteen trips. -/
theorem trips2 : k0_t2_loop.trips = 16 := by decide +kernel

section Trips

variable (𝒱 : Variants) (c : Dev nD) (bd : Option 𝒱.V) (i : grid0.Coords)
  (arg1 : Memref sig .tc .smem S2 .f32) (harg1 : arg1.IsWhole) (arg2 : Memref sig .tc .smem S1 .f32) (harg2 : arg2.IsWhole)
  (arg3 : Memref sig .tc .vmem S128x2048 .i8) (harg3 : arg3.IsWhole) (arg4 : Memref sig .tc .vmem S128x256 .fp8e4m3) (harg4 : arg4.IsWhole)
  (arg5 : Memref sig .tc .vmem S512x2048 .i8) (harg5 : arg5.IsWhole) (arg6 : Memref sig .tc .vmem S512x256 .fp8e4m3) (harg6 : arg6.IsWhole)
  (arg7 : Memref sig .tc .vmem S128x512 .bf16) (harg7 : arg7.IsWhole) (arg8 : Memref sig .tc .vmem S128x4096 .bf16) (harg8 : arg8.IsWhole)
  (arg9 : Memref sig .tc .vmem S128x2x128 .bf16) (harg9 : arg9.IsWhole) (arg10 : Memref sig .tc .vmem S128x2x128 .bf16) (harg10 : arg10.IsWhole)
  (arg11 : Memref sig .tc .vmem S128x2x512 .bf16) (harg11 : arg11.IsWhole) (arg12 : Memref sig .tc .vmem S128x2x512 .bf16) (harg12 : arg12.IsWhole)

/-- One lane block of the four: rows `128 m …` of the codes and of the scales. -/
theorem block_deq (X5 : BufTy.Contents (Elt Ideal) arg5.view.ty)
    (X11 : BufTy.Contents (Elt Ideal) arg11.view.ty) (X12 : BufTy.Contents (Elt Ideal) arg12.view.ty)
    (wc : Fin 512 → Fin 2048 → BitVec 8) (ws : Fin 512 → Fin 256 → EReal)
    (h5 : ∀ n j, arg5.view.read (Elt Ideal) X5 (ix2 n j) = wc n j)
    (h11 : ∀ (q : Fin 128) (p : Fin 2) (n : Fin 512), arg11.view.read (Elt Ideal) X11 (ix3 q p n) = ws n ⟨2 * q.val, by omega⟩)
    (h12 : ∀ (q : Fin 128) (p : Fin 2) (n : Fin 512), arg12.view.read (Elt Ideal) X12 (ix3 q p n) = ws n ⟨2 * q.val + 1, by omega⟩)
    (k : Fin 16) (m : Fin 4) (oc : Fin 2 → Nat) (os : Fin 8 → Fin 3 → Nat) (hoc : oc = ![128 * m.val, 128 * k.val])
    (hos : ∀ b, os b = ![8 * k.val + b.val, 0, 128 * m.val])
    (hc : ∀ a, oc a + S128x128.size a ≤ S512x2048.size a) (hs : ∀ b a, os b a + S1x2x128.size a ≤ S128x2x512.size a) (r : Fin 256) (l : Fin 128) :
    decT (View.readAt (Elt Ideal) arg5.view (Rect.unit (s := S512x2048) oc S128x128.size hc).toLoadRect X5)
      (alt (fun b => View.readAt (Elt Ideal) arg11.view (Rect.unit (s := S128x2x512) (os b) S1x2x128.size (hs b)).toLoadRect X11)
        (fun b => View.readAt (Elt Ideal) arg12.view (Rect.unit (s := S128x2x512) (os b) S1x2x128.size (hs b)).toLoadRect X12)) (ix2 r l)
      = deq (wc ⟨128 * m.val + l.val, by omega⟩) (ws ⟨128 * m.val + l.val, by omega⟩) (at256 k r) :=
  decT_deq _ _ _ _ _ k l
    (fun j => (readAt2 arg5 X5 _ _ (128 * m.val) (128 * k.val) hoc l j ⟨128 * m.val + l.val, by omega⟩ ⟨128 * k.val + j.val, by omega⟩ rfl rfl).trans (h5 _ _))
    (fun b p => (readAt3 arg11 X11 _ _ (8 * k.val + b.val) 0 (128 * m.val) (hos b) 0 p l ⟨8 * k.val + b.val, by omega⟩ p ⟨128 * m.val + l.val, by omega⟩ rfl (by omega) rfl).trans (h11 _ _ _))
    (fun b p => (readAt3 arg12 X12 _ _ (8 * k.val + b.val) 0 (128 * m.val) (hos b) 0 p l ⟨8 * k.val + b.val, by omega⟩ p ⟨128 * m.val + l.val, by omega⟩ rfl (by omega) rfl).trans (h12 _ _ _)) r

/-- Trip `k` of the loop of products adds block `k`'s share of every dot product. -/
theorem tripR_apply (X5 : BufTy.Contents (Elt Ideal) arg5.view.ty) (X8 : BufTy.Contents (Elt Ideal) arg8.view.ty)
    (X11 : BufTy.Contents (Elt Ideal) arg11.view.ty) (X12 : BufTy.Contents (Elt Ideal) arg12.view.ty)
    (wc : Fin 512 → Fin 2048 → BitVec 8) (ws : Fin 512 → Fin 256 → EReal) (xv : Fin 128 → Fin 4096 → EReal)
    (h5 : ∀ n j, arg5.view.read (Elt Ideal) X5 (ix2 n j) = wc n j)
    (h8 : ∀ s k, arg8.view.read (Elt Ideal) X8 (ix2 s k) = xv s k)
    (h11 : ∀ (q : Fin 128) (p : Fin 2) (n : Fin 512), arg11.view.read (Elt Ideal) X11 (ix3 q p n) = ws n ⟨2 * q.val, by omega⟩)
    (h12 : ∀ (q : Fin 128) (p : Fin 2) (n : Fin 512), arg12.view.read (Elt Ideal) X12 (ix3 q p n) = ws n ⟨2 * q.val + 1, by omega⟩)
    (k : Fin k0_t2_loop.trips) (hk : k.val < 16) (acc : FVec Ideal S128x512 .f32) (s : Fin 128) (n : Fin 512) :
    tripR_k0_t2 (F := Ideal) 𝒱 c bd i arg1 harg1 arg2 harg2 arg3 harg3 arg4 harg4 arg5 harg5 arg6 harg6 arg7 harg7 arg8 harg8 arg9 harg9 arg10 harg10 arg11 harg11 arg12 harg12 X5 X8 X11 X12 k acc (ix2 s n)
      = acc (ix2 s n) + ∑ r : Fin 256, xv s (at256 ⟨k.val, hk⟩ r) * deq (wc n) (ws n) (at256 ⟨k.val, hk⟩ r) := by
  rw [tripR_eq]
  have hb := block_deq arg5 arg11 arg12 X5 X11 X12 wc ws h5 h11 h12 ⟨k.val, hk⟩
  refine (pay129_of acc _ _ _ _ _ (fun n r => deq (wc n) (ws n) (at256 ⟨k.val, hk⟩ r))
    (hb 0 (k0_off4 k) (fun b => k0_off5 k (BitVec.ofNat 32 b.val)) (off4_eq k) (off5_eq k) (facts.k0_off4_inb k) (facts.k0_off5_inb k))
    (hb 1 (k0_off6 k) (fun b => k0_off7 k (BitVec.ofNat 32 b.val)) (off6_eq k) (off7_eq k) (facts.k0_off6_inb k) (facts.k0_off7_inb k))
    (hb 2 (k0_off8 k) (fun b => k0_off9 k (BitVec.ofNat 32 b.val)) (off8_eq k) (off9_eq k) (facts.k0_off8_inb k) (facts.k0_off9_inb k))
    (hb 3 (k0_off10 k) (fun b => k0_off11 k (BitVec.ofNat 32 b.val)) (off10_eq k) (off11_eq k) (facts.k0_off10_inb k) (facts.k0_off11_inb k)) s n).trans ?_
  congr 1
  refine Finset.sum_congr rfl fun r _ => ?_
  rw [← h8]
  exact congrArg (· * _) (readAt2 arg8 X8 _ _ 0 (256 * k.val) (off12_eq k) s r s _ (by omega) rfl)

/-- The carried sum after all sixteen trips: the whole dot product on top of the initial value. -/
theorem st_apply (X5 : BufTy.Contents (Elt Ideal) arg5.view.ty) (X8 : BufTy.Contents (Elt Ideal) arg8.view.ty)
    (X11 : BufTy.Contents (Elt Ideal) arg11.view.ty) (X12 : BufTy.Contents (Elt Ideal) arg12.view.ty)
    (wc : Fin 512 → Fin 2048 → BitVec 8) (ws : Fin 512 → Fin 256 → EReal) (xv : Fin 128 → Fin 4096 → EReal)
    (h5 : ∀ n j, arg5.view.read (Elt Ideal) X5 (ix2 n j) = wc n j)
    (h8 : ∀ s k, arg8.view.read (Elt Ideal) X8 (ix2 s k) = xv s k)
    (h11 : ∀ (q : Fin 128) (p : Fin 2) (n : Fin 512), arg11.view.read (Elt Ideal) X11 (ix3 q p n) = ws n ⟨2 * q.val, by omega⟩)
    (h12 : ∀ (q : Fin 128) (p : Fin 2) (n : Fin 512), arg12.view.read (Elt Ideal) X12 (ix3 q p n) = ws n ⟨2 * q.val + 1, by omega⟩)
    (init : FVec Ideal S128x512 .f32) (s : Fin 128) (n : Fin 512) :
    st_k0_t2 (F := Ideal) 𝒱 c bd i arg1 harg1 arg2 harg2 arg3 harg3 arg4 harg4 arg5 harg5 arg6 harg6 arg7 harg7 arg8 harg8 arg9 harg9 arg10 harg10 arg11 harg11 arg12 harg12 X5 X8 X11 X12 init 16 (ix2 s n)
      = init (ix2 s n) + ∑ k : Fin 16, ∑ r : Fin 256, xv s (at256 k r) * deq (wc n) (ws n) (at256 k r) := by
  have h : ∀ K : Nat, K ≤ 16 → st_k0_t2 (F := Ideal) 𝒱 c bd i arg1 harg1 arg2 harg2 arg3 harg3 arg4 harg4 arg5 harg5 arg6 harg6 arg7 harg7 arg8 harg8 arg9 harg9 arg10 harg10 arg11 harg11 arg12 harg12 X5 X8 X11 X12 init K (ix2 s n)
      = init (ix2 s n) + ∑ k ∈ Finset.range K, if hk : k < 16 then ∑ r : Fin 256, xv s (at256 ⟨k, hk⟩ r) * deq (wc n) (ws n) (at256 ⟨k, hk⟩ r) else 0 := by
    intro K
    induction K with
    | zero => intro _; simp [st_k0_t2]
    | succ K ih =>
      intro hK
      have hs := st_k0_t2_succ (F := Ideal) 𝒱 c bd i arg1 harg1 arg2 harg2 arg3 harg3 arg4 harg4 arg5 harg5 arg6 harg6 arg7 harg7 arg8 harg8 arg9 harg9 arg10 harg10 arg11 harg11 arg12 harg12 X5 X8 X11 X12 init ⟨K, by rw [trips2]; omega⟩
      dsimp only at hs
      rw [hs, tripR_apply 𝒱 c bd i arg1 harg1 arg2 harg2 arg3 harg3 arg4 harg4 arg5 harg5 arg6 harg6 arg7 harg7 arg8 harg8 arg9 harg9 arg10 harg10 arg11 harg11 arg12 harg12 X5 X8 X11 X12 wc ws xv h5 h8 h11 h12 _ (by show K < 16; omega), ih (by omega),
        Finset.sum_range_succ, dif_pos (show K < 16 by omega), add_assoc]
  rw [h 16 le_rfl, Finset.sum_range]
  congr 1

/-- The piece that trip `k` of the decode of x writes. -/
theorem tripL_apply (hc0 : k0_cond1 i = 1#1) (X3 : BufTy.Contents (Elt Ideal) arg3.view.ty)
    (X9 : BufTy.Contents (Elt Ideal) arg9.view.ty) (X10 : BufTy.Contents (Elt Ideal) arg10.view.ty)
    (xc : Fin 128 → Fin 2048 → BitVec 8) (xs : Fin 128 → Fin 256 → EReal)
    (h3 : ∀ s j, arg3.view.read (Elt Ideal) X3 (ix2 s j) = xc s j)
    (h9 : ∀ (q : Fin 128) (p : Fin 2) (s : Fin 128), arg9.view.read (Elt Ideal) X9 (ix3 q p s) = xs s ⟨2 * q.val, by omega⟩)
    (h10 : ∀ (q : Fin 128) (p : Fin 2) (s : Fin 128), arg10.view.read (Elt Ideal) X10 (ix3 q p s) = xs s ⟨2 * q.val + 1, by omega⟩)
    (k : Fin k0_t1_loop.trips) (hk : k.val < 16) :
    ∃ v : FVec Ideal S128x256 .bf16, (∀ s r, v (ix2 s r) = deq (xc s) (xs s) (at256 ⟨k.val, hk⟩ r)) ∧
      tripL_k0_t1 (F := Ideal) 𝒱 c bd i arg1 harg1 arg2 harg2 arg3 harg3 arg4 harg4 arg5 harg5 arg6 harg6 arg7 harg7 arg8 harg8 arg9 harg9 arg10 harg10 arg11 harg11 arg12 harg12 hc0 X3 X9 X10 k
        = [⟨Rect.unit (s := S128x4096) (k0_off3 k) S128x256.size (facts.k0_off3_inb i k hc0), v⟩] := by
  refine ⟨_, ?_, tripL_eq 𝒱 c bd i arg1 harg1 arg2 harg2 arg3 harg3 arg4 harg4 arg5 harg5 arg6 harg6 arg7 harg7 arg8 harg8 arg9 harg9 arg10 harg10 arg11 harg11 arg12 harg12 hc0 X3 X9 X10 k⟩
  intro s r
  have hb := decT_deq (shapeCast S128x128 (View.readAt (Elt Ideal) arg3.view (Rect.unit (s := S128x2048) (k0_off1 k) S128x128.size (facts.k0_off1_inb i k hc0)).toLoadRect X3) shapeCasts_S128x128_S128x128)
    (fun b => View.readAt (Elt Ideal) arg9.view (Rect.unit (s := S128x2x128) (k0_off2 k (BitVec.ofNat 32 b.val)) S1x2x128.size (facts.k0_off2_inb i k hc0 b)).toLoadRect X9)
    (fun b => View.readAt (Elt Ideal) arg10.view (Rect.unit (s := S128x2x128) (k0_off2 k (BitVec.ofNat 32 b.val)) S1x2x128.size (facts.k0_off2_inb i k hc0 b)).toLoadRect X10)
    (xc s) (xs s) ⟨k.val, hk⟩ s
    (fun j => by
      have e := readAt2 arg3 X3 (k0_off1 k) (facts.k0_off1_inb i k hc0) 0 (128 * k.val) (off1_eq k) s j s ⟨128 * k.val + j.val, by omega⟩ (by omega) rfl
      rw [h3] at e
      refine Eq.trans ?_ e
      exact congrFun (shapeCast_self _ _) _)
    (fun b p => (readAt3 arg9 X9 _ _ (8 * k.val + b.val) 0 0 (off2_eq k b) 0 p s ⟨8 * k.val + b.val, by omega⟩ p s rfl (by omega) (by omega)).trans (h9 _ _ _))
    (fun b p => (readAt3 arg10 X10 _ _ (8 * k.val + b.val) 0 0 (off2_eq k b) 0 p s ⟨8 * k.val + b.val, by omega⟩ p s rfl (by omega) (by omega)).trans (h10 _ _ _)) r
  refine Eq.trans ?_ hb
  unfold k0_pay109
  refine (congrFun (shapeCast_self _ _) _).trans ?_
  unfold transpose
  congr 1; funext a; match a with | ⟨0, _⟩ => rfl | ⟨1, _⟩ => rfl

end Trips

end Cert.KernelIdeal.Block
-- ==== Proof.Loop1.lean ====
module

public import proofs.«01_k».proof.Proof.Trip
public import Idealize.ShloMosaic.Lib.WritesUnit

/-! What the decode loop leaves in the scratch that keeps the dequantised activations. -/

@[expose] public section

set_option maxRecDepth 16384

noncomputable section

open Idealize.ShloMosaic Idealize.ShloMosaic.TcCoe Idealize.SL.Sem Idealize.ShloMosaic.ValueIdx

namespace Cert.KernelIdeal.Block

open Cert.KernelIdeal Cert.KernelIdeal.Gen

section Loop1

variable (𝒱 : Variants) (c : Dev nD) (bd : Option 𝒱.V) (i : grid0.Coords)
  (arg1 : Memref sig .tc .smem S2 .f32) (harg1 : arg1.IsWhole) (arg2 : Memref sig .tc .smem S1 .f32) (harg2 : arg2.IsWhole)
  (arg3 : Memref sig .tc .vmem S128x2048 .i8) (harg3 : arg3.IsWhole) (arg4 : Memref sig .tc .vmem S128x256 .fp8e4m3) (harg4 : arg4.IsWhole)
  (arg5 : Memref sig .tc .vmem S512x2048 .i8) (harg5 : arg5.IsWhole) (arg6 : Memref sig .tc .vmem S512x256 .fp8e4m3) (harg6 : arg6.IsWhole)
  (arg7 : Memref sig .tc .vmem S128x512 .bf16) (harg7 : arg7.IsWhole) (arg8 : Memref sig .tc .vmem S128x4096 .bf16) (harg8 : arg8.IsWhole)
  (arg9 : Memref sig .tc .vmem S128x2x128 .bf16) (harg9 : arg9.IsWhole) (arg10 : Memref sig .tc .vmem S128x2x128 .bf16) (harg10 : arg10.IsWhole)
  (arg11 : Memref sig .tc .vmem S128x2x512 .bf16) (harg11 : arg11.IsWhole) (arg12 : Memref sig .tc .vmem S128x2x512 .bf16) (harg12 : arg12.IsWhole)

/-- After `K` trips the first `256 K` columns hold the dequantised rows. -/
theorem pb_apply (hc0 : k0_cond1 i = 1#1) (X3 : BufTy.Contents (Elt Ideal) arg3.view.ty)
    (X9 : BufTy.Contents (Elt Ideal) arg9.view.ty) (X10 : BufTy.Contents (Elt Ideal) arg10.view.ty)
    (xc : Fin 128 → Fin 2048 → BitVec 8) (xs : Fin 128 → Fin 256 → EReal)
    (h3 : ∀ s j, arg3.view.read (Elt Ideal) X3 (ix2 s j) = xc s j)
    (h9 : ∀ (q : Fin 128) (p : Fin 2) (s : Fin 128), arg9.view.read (Elt Ideal) X9 (ix3 q p s) = xs s ⟨2 * q.val, by omega⟩)
    (h10 : ∀ (q : Fin 128) (p : Fin 2) (s : Fin 128), arg10.view.read (Elt Ideal) X10 (ix3 q p s) = xs s ⟨2 * q.val + 1, by omega⟩)
    {sp : Space} (v : View sig .tc sp S128x4096 .bf16) (f : BufTy.Contents (Elt Ideal) v.ty) (s : Fin 128) (k : Fin 4096) :
    ∀ K : Nat, K ≤ 16 → k.val < 256 * K →
      v.read (Elt Ideal) (v.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 hc0 X3 X9 X10 K)) (ix2 s k)
        = deq (xc s) (xs s) k := by
  intro K
  induction K with
  | zero => intro _ h; omega
  | succ K ih =>
    intro hK hk
    have hs := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 hc0 X3 X9 X10 ⟨K, by rw [trips1]; omega⟩
    dsimp only at hs
    obtain ⟨w, hw, ht⟩ := tripL_apply 𝒱 c bd i arg1 harg1 arg2 harg2 arg3 harg3 arg4 harg4 arg5 harg5 arg6 harg6 arg7 harg7 arg8 harg8 arg9 harg9 arg10 harg10 arg11 harg11 arg12 harg12 hc0 X3 X9 X10 xc xs h3 h9 h10 ⟨K, by rw [trips1]; omega⟩ (by show K < 16; omega)
    rw [hs, ht, List.singleton_append]
    by_cases h : k.val < 256 * K
    · refine (View.read_writes_cons_unit_of_not_mem v f _ w _ (ix2 s k) (off3_eq _) 1 (Or.inl ?_)).trans (ih (by omega) h)
      exact h
    · refine (View.read_writes_cons_unit_of_mem v f _ w _ (ix2 s k) (ix2 s ⟨k.val - 256 * K, by omega⟩) (off3_eq _) ?_).trans ?_
      · intro a
        match a with
        | ⟨0, _⟩ => show s.val = 0 + s.val; omega
        | ⟨1, _⟩ => show k.val = 256 * K + (k.val - 256 * K); omega
      · rw [hw]
        congr 1
        apply Fin.ext
        show 256 * K + (k.val - 256 * K) = k.val
        omega

end Loop1

end Cert.KernelIdeal.Block
-- ==== Proof.Scales.lean ====
module

public import proofs.«01_k».proof.Proof.Loop1

/-! What the scale buffers hold: a block of scales, transposed, each row of it written twice. -/

@[expose] public section

set_option maxRecDepth 16384

noncomputable section

open Idealize.ShloMosaic Idealize.ShloMosaic.TcCoe Idealize.SL.Sem Idealize.ShloMosaic.ValueIdx

namespace Cert.KernelIdeal.Block

open Cert.KernelIdeal Cert.KernelIdeal.Gen

/-- The rows of parity `p` of a transposed block of scales, each written twice. -/
def dupRows (p : Fin 2) (s : Vec Ideal S128x256 .fp8e4m3) : Vec Ideal S128x2x128 .bf16 :=
  have v : FVec Ideal S128x128 .bf16 := rowsOfParity p S128x128 (extf .bf16 (transpose S256x128 [1, 0] s transposes_S128x256_p1_0_S256x128) bitsLt_fp8e4m3_bf16) bitcasts_S256x128_w16_S128x128_w32
  interleaveRows S128x2x128 (shapeCast S128x1x128 v shapeCasts_S128x128_S128x1x128) (shapeCast S128x1x128 v shapeCasts_S128x128_S128x1x128) bitcasts_S128x2x128_w16_S128x1x128_w32

/-- An entry of the doubled rows is one scale. -/
theorem dupRows_apply (p : Fin 2) (s : Vec Ideal S128x256 .fp8e4m3) (q : Fin 128) (h : Fin 2) (n : Fin 128) :
    dupRows p s (ix3 q h n) = s (ix2 n ⟨2 * q.val + p.val, by omega⟩) := by
  have hv : ∀ (v : FVec Ideal S128x128 .bf16), shapeCast S128x1x128 v shapeCasts_S128x128_S128x1x128 (ix3 q 0 n) = v (ix2 q n) := by
    intro v
    unfold shapeCast
    rw [Shape.reshapeEquiv_eq_of_rowMajor (y := (ix2 q n : S128x128.Idx))]
    simp [Shape.rowMajor_val_two, Shape.rowMajor_val_three]
  have hr : rowsOfParity p S128x128 (extf .bf16 (transpose S256x128 [1, 0] s transposes_S128x256_p1_0_S256x128) bitsLt_fp8e4m3_bf16 : FVec Ideal S256x128 .bf16) bitcasts_S256x128_w16_S128x128_w32 (ix2 q n)
      = s (ix2 n ⟨2 * q.val + p.val, by omega⟩) := by
    unfold rowsOfParity
    rw [extf_apply]
    unfold transpose
    congr 1; funext a; match a with | ⟨0, _⟩ => rfl | ⟨1, _⟩ => rfl
  unfold dupRows interleaveRows
  dsimp only
  have hj : ∀ (x : S128x1x128.Idx → EReal) (j : S128x1x128.Idx), j = ix3 q 0 n → x j = x (ix3 q 0 n) := fun x j e => by rw [e]
  split <;>
  · refine Eq.trans (congrArg _ ?_) ((hv _).trans hr)
    funext a
    match a with
    | ⟨0, _⟩ => rfl
    | ⟨1, _⟩ => exact Fin.ext (by show h.val / 2 = 0; omega)
    | ⟨2, _⟩ => rfl

/-- A buffer filled in four blocks of 128 lanes reads the block of the lane. -/
theorem four_blocks {sp : Space} (v : View sig .tc sp S128x2x512 .bf16) (f : BufTy.Contents (Elt Ideal) v.ty)
    (P0 P1 P2 P3 : Vec Ideal S128x2x128 .bf16) (G : Fin 128 → Fin 512 → EReal)
    (h0 : ∀ (q : Fin 128) (p : Fin 2) (l : Fin 128), P0 (ix3 q p l) = G q ⟨0 + l.val, by omega⟩)
    (h1 : ∀ (q : Fin 128) (p : Fin 2) (l : Fin 128), P1 (ix3 q p l) = G q ⟨128 + l.val, by omega⟩)
    (h2 : ∀ (q : Fin 128) (p : Fin 2) (l : Fin 128), P2 (ix3 q p l) = G q ⟨256 + l.val, by omega⟩)
    (h3 : ∀ (q : Fin 128) (p : Fin 2) (l : Fin 128), P3 (ix3 q p l) = G q ⟨384 + l.val, by omega⟩)
    (q : Fin 128) (p : Fin 2) (n : Fin 512) :
    v.read (Elt Ideal) (v.writes (Elt Ideal) f
      [⟨Rect.unit (s := S128x2x512) ![0, 0, 384] S128x2x128.size inb_S128x2x512_S128x2x128_0_0_384, P3⟩,
       ⟨Rect.unit (s := S128x2x512) ![0, 0, 256] S128x2x128.size inb_S128x2x512_S128x2x128_0_0_256, P2⟩,
       ⟨Rect.unit (s := S128x2x512) ![0, 0, 128] S128x2x128.size inb_S128x2x512_S128x2x128_0_0_128, P1⟩,
       ⟨Rect.unit (s := S128x2x512) ![0, 0, 0] S128x2x128.size inb_S128x2x512_S128x2x128_0_0_0, P0⟩]) (ix3 q p n) = G q n := by
  have hit : ∀ (b : Nat) (inb : ∀ a, (![0, 0, b] : Fin 3 → Nat) a + S128x2x128.size a ≤ S128x2x512.size a)
      (P : Vec Ideal S128x2x128 .bf16) (L : List (View.Piece (Elt Ideal) S128x2x512 .bf16)) (hb : b + 128 ≤ 512)
      (_ : ∀ (q : Fin 128) (p : Fin 2) (l : Fin 128), P (ix3 q p l) = G q ⟨b + l.val, by omega⟩) (_ : b ≤ n.val) (_ : n.val < b + 128),
      v.read (Elt Ideal) (v.writes (Elt Ideal) f (⟨Rect.unit (s := S128x2x512) ![0, 0, b] S128x2x128.size inb, P⟩ :: L)) (ix3 q p n) = G q n := by
    intro b inb P L hb hP hlo hhi
    refine (View.read_writes_cons_unit_of_mem v f _ P _ (ix3 q p n) (ix3 q p ⟨n.val - b, by omega⟩) rfl ?_).trans ?_
    · intro a
      match a with
      | ⟨0, _⟩ => show q.val = 0 + q.val; omega
      | ⟨1, _⟩ => show p.val = 0 + p.val; omega
      | ⟨2, _⟩ => show n.val = b + (n.val - b); omega
    · rw [hP]
      congr 1
      apply Fin.ext
      show b + (n.val - b) = n.val
      omega
  have miss : ∀ (b : Nat) (inb : ∀ a, (![0, 0, b] : Fin 3 → Nat) a + S128x2x128.size a ≤ S128x2x512.size a)
      (P : Vec Ideal S128x2x128 .bf16) (L : List (View.Piece (Elt Ideal) S128x2x512 .bf16)) (_ : n.val < b),
      v.read (Elt Ideal) (v.writes (Elt Ideal) f L) (ix3 q p n) = G q n →
      v.read (Elt Ideal) (v.writes (Elt Ideal) f (⟨Rect.unit (s := S128x2x512) ![0, 0, b] S128x2x128.size inb, P⟩ :: L)) (ix3 q p n) = G q n :=
    fun b inb P L hb h => (View.read_writes_cons_unit_of_not_mem v f _ P _ (ix3 q p n) rfl 2 (Or.inl hb)).trans h
  by_cases c3 : 384 ≤ n.val
  · exact hit 384 _ P3 _ (by omega) h3 c3 (by omega)
  refine miss 384 _ P3 _ (by omega) ?_
  by_cases c2 : 256 ≤ n.val
  · exact hit 256 _ P2 _ (by omega) h2 c2 (by omega)
  refine miss 256 _ P2 _ (by omega) ?_
  by_cases c1 : 128 ≤ n.val
  · exact hit 128 _ P1 _ (by omega) h1 c1 (by omega)
  refine miss 128 _ P1 _ (by omega) ?_
  exact hit 0 _ P0 _ (by omega) h0 (by omega) (by omega)

/-- A block of scales loaded, transposed and doubled. -/
theorem dupRows_block {d : Nat} {sp : Space} (arg : Memref sig .tc sp ⟨2, ![d, 256]⟩ .fp8e4m3) (X : BufTy.Contents (Elt Ideal) arg.view.ty)
    (ws : Fin d → Fin 256 → EReal) (hX : ∀ n j, arg.view.read (Elt Ideal) X (ix2 n j) = ws n j)
    (b : Nat) (hb : b + 128 ≤ d) (inb : ∀ a, (![b, 0] : Fin 2 → Nat) a + S128x256.size a ≤ (⟨2, ![d, 256]⟩ : Shape).size a)
    (par : Fin 2) (q : Fin 128) (p : Fin 2) (l : Fin 128) :
    dupRows par (View.readAt (Elt Ideal) arg.view (Rect.unit (s := ⟨2, ![d, 256]⟩) ![b, 0] S128x256.size inb).toLoadRect X) (ix3 q p l)
      = ws ⟨b + l.val, by omega⟩ ⟨2 * q.val + par.val, by omega⟩ := by
  rw [dupRows_apply]
  exact (readAt2 arg X ![b, 0] inb b 0 rfl l ⟨2 * q.val + par.val, by omega⟩ ⟨b + l.val, by omega⟩ ⟨2 * q.val + par.val, by omega⟩ rfl (by simp)).trans (hX _ _)

end Cert.KernelIdeal.Block
-- ==== Proof.Output.lean ====
module

public import proofs.«01_k».proof.Proof.Scales
public import proofs.«01_k».proof.Proof.Run.Value

/-! What one grid point leaves in its output block and in the scratch of dequantised activations. -/

@[expose] public section

set_option maxRecDepth 16384

noncomputable section

open Idealize.ShloMosaic Idealize.ShloMosaic.TcCoe Idealize.SL.Sem Idealize.ShloMosaic.ValueIdx

namespace Cert.KernelIdeal.Block

open Cert.KernelIdeal Cert.KernelIdeal.Gen Cert.KernelIdeal.Run

/-- The two halves of the output block: the sums, scaled by the global scale of the half's rows and by the weight's. -/
theorem halves_apply {sp : Space} (v : View sig .tc sp S128x512 .bf16) (f : BufTy.Contents (Elt Ideal) v.ty)
    (acc : FVec Ideal S128x512 .f32) (g0 g1 w w' : EReal) (gx : Fin 2 → EReal) (gw : EReal) (h0 : g0 = gx 0) (h1 : g1 = gx 1)
    (hw : w = gw) (hw' : w' = gw) (s : Fin 128) (n : Fin 512) :
    v.read (Elt Ideal) (v.writes (Elt Ideal) f
      [⟨Rect.unit (s := S128x512) ![64, 0] ![64, 512] inb_S128x512_S64x512_64_0, k0_pay1 (F := Ideal) (k0_pay131 acc) g1 w⟩,
       ⟨Rect.unit (s := S128x512) ![0, 0] ![64, 512] inb_S128x512_S64x512_0_0, k0_pay130 (F := Ideal) acc g0 w'⟩]) (ix2 s n)
      = acc (ix2 s n) * gx ⟨s.val / 64, by omega⟩ * gw := by
  subst h0 h1 hw hw'
  by_cases h : s.val < 64
  · refine (View.read_writes_cons_unit_of_not_mem v f _ _ _ (ix2 s n) rfl 0 (Or.inl h)).trans ?_
    refine (View.read_writes_cons_unit_of_mem v f _ _ _ (ix2 s n) (ix2 ⟨s.val, h⟩ n) rfl ?_).trans ?_
    · intro a
      match a with
      | ⟨0, _⟩ => show s.val = 0 + s.val; omega
      | ⟨1, _⟩ => show n.val = 0 + n.val; omega
    · unfold k0_pay130
      rw [truncf_apply, mulf_apply, mulf_apply]
      have e : (⟨s.val / 64, by omega⟩ : Fin 2) = 0 := Fin.ext (by show s.val / 64 = 0; omega)
      rw [e, extractStridedSlice_apply _ _ _ _ (ix2 s n) (fun a => by match a with | ⟨0, _⟩ => show s.val = 0 + s.val; omega | ⟨1, _⟩ => show n.val = 0 + n.val; omega)]
      rfl
  · refine (View.read_writes_cons_unit_of_mem v f _ _ _ (ix2 s n) (ix2 ⟨s.val - 64, by omega⟩ n) rfl ?_).trans ?_
    · intro a
      match a with
      | ⟨0, _⟩ => show s.val = 64 + (s.val - 64); omega
      | ⟨1, _⟩ => show n.val = 0 + n.val; omega
    · unfold k0_pay1 k0_pay131
      rw [truncf_apply, mulf_apply, mulf_apply]
      have e : (⟨s.val / 64, by omega⟩ : Fin 2) = 1 := Fin.ext (by show s.val / 64 = 1; omega)
      rw [e, extractStridedSlice_apply _ _ _ _ (ix2 s n) (fun a => by match a with | ⟨0, _⟩ => show s.val = 64 + (s.val - 64); omega | ⟨1, _⟩ => show n.val = 0 + n.val; omega)]
      rfl

/-- A scalar loaded of a one-axis buffer. -/
theorem readAt1 {d : Nat} {e : EltTy} {sp : Space} (arg : Memref sig .tc sp ⟨1, ![d]⟩ e) (X : BufTy.Contents (Elt Ideal) arg.view.ty)
    (b : Nat) (inb : ∀ a, (![b] : Fin 1 → Nat) a + (![1] : Fin 1 → Nat) a ≤ (⟨1, ![d]⟩ : Shape).size a) (hb : b < d)
    (z : (⟨1, ![1]⟩ : Shape).Idx) :
    View.readAt (Elt Ideal) arg.view (Rect.unit (s := ⟨1, ![d]⟩) ![b] ![1] inb).toLoadRect X z = arg.view.read (Elt Ideal) X (ix1 ⟨b, hb⟩) := by
  rw [View.readAt_apply]
  congr 1; funext a
  match a with
  | ⟨0, _⟩ => exact Fin.ext (by show b + 1 * (z 0).val = b; have := (z 0).isLt; have h1 : (z 0).val < 1 := this; omega)

/-- A scale buffer of the weights: four blocks of the loaded scales, transposed and doubled. -/
theorem scales_apply {sp sp' : Space} (v : View sig .tc sp S128x2x512 .bf16) (f : BufTy.Contents (Elt Ideal) v.ty)
    (arg : Memref sig .tc sp' S512x256 .fp8e4m3) (harg : arg.IsWhole) (x : Vec Ideal S512x256 .fp8e4m3) (par : Fin 2)
    (q : Fin 128) (p : Fin 2) (n : Fin 512) :
    v.read (Elt Ideal) (v.writes (Elt Ideal) f
      [⟨Rect.unit (s := S128x2x512) ![0, 0, 384] S128x2x128.size inb_S128x2x512_S128x2x128_0_0_384, dupRows par (View.readAt (Elt Ideal) arg.view (Rect.unit (s := S512x256) ![384, 0] S128x256.size inb_S512x256_S128x256_384_0).toLoadRect (harg.unread x))⟩,
       ⟨Rect.unit (s := S128x2x512) ![0, 0, 256] S128x2x128.size inb_S128x2x512_S128x2x128_0_0_256, dupRows par (View.readAt (Elt Ideal) arg.view (Rect.unit (s := S512x256) ![256, 0] S128x256.size inb_S512x256_S128x256_256_0).toLoadRect (harg.unread x))⟩,
       ⟨Rect.unit (s := S128x2x512) ![0, 0, 128] S128x2x128.size inb_S128x2x512_S128x2x128_0_0_128, dupRows par (View.readAt (Elt Ideal) arg.view (Rect.unit (s := S512x256) ![128, 0] S128x256.size inb_S512x256_S128x256_128_0).toLoadRect (harg.unread x))⟩,
       ⟨Rect.unit (s := S128x2x512) ![0, 0, 0] S128x2x128.size inb_S128x2x512_S128x2x128_0_0_0, dupRows par (View.readAt (Elt Ideal) arg.view (Rect.unit (s := S512x256) ![0, 0] S128x256.size inb_S512x256_S128x256_0_0).toLoadRect (harg.unread x))⟩])
      (ix3 q p n) = x (ix2 n ⟨2 * q.val + par.val, by omega⟩) := by
  have hr : ∀ n j, arg.view.read (Elt Ideal) (harg.unread x) (ix2 n j) = x (ix2 n j) := fun n j => by rw [harg.read_unread]
  exact four_blocks _ _ _ _ _ _ (fun q n => x (ix2 n ⟨2 * q.val + par.val, by omega⟩))
    (fun q p l => dupRows_block arg (harg.unread x) _ hr 0 (by omega) _ par q p l)
    (fun q p l => dupRows_block arg (harg.unread x) _ hr 128 (by omega) _ par q p l)
    (fun q p l => dupRows_block arg (harg.unread x) _ hr 256 (by omega) _ par q p l)
    (fun q p l => dupRows_block arg (harg.unread x) _ hr 384 (by omega) _ par q p l) q p n

/-- A scale buffer of the activations: the loaded scales, transposed and doubled. -/
theorem scales1_apply {sp sp' : Space} (v : View sig .tc sp S128x2x128 .bf16) (f : BufTy.Contents (Elt Ideal) v.ty)
    (arg : Memref sig .tc sp' S128x256 .fp8e4m3) (harg : arg.IsWhole) (x : Vec Ideal S128x256 .fp8e4m3) (par : Fin 2)
    (q : Fin 128) (p : Fin 2) (n : Fin 128) :
    v.read (Elt Ideal) (v.writes (Elt Ideal) f
      [⟨Rect.unit (s := S128x2x128) ![0, 0, 0] S128x2x128.size inb_S128x2x128_S128x2x128_0_0_0, dupRows par (View.readAt (Elt Ideal) arg.view (Rect.unit (s := S128x256) ![0, 0] S128x256.size inb_S128x256_S128x256_0_0).toLoadRect (harg.unread x))⟩])
      (ix3 q p n) = x (ix2 n ⟨2 * q.val + par.val, by omega⟩) := by
  have hr : ∀ n j, arg.view.read (Elt Ideal) (harg.unread x) (ix2 n j) = x (ix2 n j) := fun n j => by rw [harg.read_unread]
  refine (View.read_writes_cons_unit_of_mem v f _ _ _ (ix3 q p n) (ix3 q p n) rfl ?_).trans ?_
  · intro a
    match a with
    | ⟨0, _⟩ => show q.val = 0 + q.val; omega
    | ⟨1, _⟩ => show p.val = 0 + p.val; omega
    | ⟨2, _⟩ => show n.val = 0 + n.val; omega
  · refine (dupRows_block arg (harg.unread x) _ hr 0 (by omega) _ par q p n).trans ?_
    congr 2
    exact Fin.ext (by show 0 + n.val = n.val; omega)

/-- What the first point writes into the first scale buffer of the activations. -/
theorem pay107_eq (v : Vec Ideal S128x256 .fp8e4m3) : k0_pay107 v = dupRows 0 v := by
  unfold k0_pay107 k0_pay106
  rw [shapeCast_self]
  rfl

/-- What the first point writes into the second scale buffer of the activations. -/
theorem pay108_eq (v : Vec Ideal S128x256 .fp8e4m3) : k0_pay108 v = dupRows 1 v := by
  unfold k0_pay108 k0_pay106
  rw [shapeCast_self]
  rfl

section Points

variable (𝒱 : Variants) (c : Dev nD) (bd : Option 𝒱.V) (i : grid0.Coords)
  (arg1 : Memref sig .tc .smem S2 .f32) (harg1 : arg1.IsWhole) (arg2 : Memref sig .tc .smem S1 .f32) (harg2 : arg2.IsWhole)
  (arg3 : Memref sig .tc .vmem S128x2048 .i8) (harg3 : arg3.IsWhole) (arg4 : Memref sig .tc .vmem S128x256 .fp8e4m3) (harg4 : arg4.IsWhole)
  (arg5 : Memref sig .tc .vmem S512x2048 .i8) (harg5 : arg5.IsWhole) (arg6 : Memref sig .tc .vmem S512x256 .fp8e4m3) (harg6 : arg6.IsWhole)
  (arg7 : Memref sig .tc .vmem S128x512 .bf16) (harg7 : arg7.IsWhole) (arg8 : Memref sig .tc .vmem S128x4096 .bf16) (harg8 : arg8.IsWhole)
  (arg9 : Memref sig .tc .vmem S128x2x128 .bf16) (harg9 : arg9.IsWhole) (arg10 : Memref sig .tc .vmem S128x2x128 .bf16) (harg10 : arg10.IsWhole)
  (arg11 : Memref sig .tc .vmem S128x2x512 .bf16) (harg11 : arg11.IsWhole) (arg12 : Memref sig .tc .vmem S128x2x512 .bf16) (harg12 : arg12.IsWhole)

/-- The block of products a point sums, from a scratch that holds `xv` and the point's codes and scales. -/
theorem sums_apply (x4 : Vec Ideal S512x2048 .i8) (x5 : Vec Ideal S512x256 .fp8e4m3) (xv : Fin 128 → Fin 4096 → EReal)
    (X8 : BufTy.Contents (Elt Ideal) arg8.view.ty) (X11 : BufTy.Contents (Elt Ideal) arg11.view.ty) (X12 : BufTy.Contents (Elt Ideal) arg12.view.ty)
    (h8 : ∀ s k, arg8.view.read (Elt Ideal) X8 (ix2 s k) = xv s k)
    (h11 : ∀ (q : Fin 128) (p : Fin 2) (n : Fin 512), arg11.view.read (Elt Ideal) X11 (ix3 q p n) = x5 (ix2 n ⟨2 * q.val, by omega⟩))
    (h12 : ∀ (q : Fin 128) (p : Fin 2) (n : Fin 512), arg12.view.read (Elt Ideal) X12 (ix3 q p n) = x5 (ix2 n ⟨2 * q.val + 1, by omega⟩))
    (s : Fin 128) (n : Fin 512) :
    st_k0_t2 (F := Ideal) 𝒱 c bd i arg1 harg1 arg2 harg2 arg3 harg3 arg4 harg4 arg5 harg5 arg6 harg6 arg7 harg7 arg8 harg8 arg9 harg9 arg10 harg10 arg11 harg11 arg12 harg12 (harg5.unread x4) X8 X11 X12 k0_pay126 16 (ix2 s n)
      = ∑ k : Fin 16, ∑ r : Fin 256, xv s (at256 k r) * deq (fun j => x4 (ix2 n j)) (fun j => x5 (ix2 n j)) (at256 k r) := by
  refine (st_apply 𝒱 c bd i arg1 harg1 arg2 harg2 arg3 harg3 arg4 harg4 arg5 harg5 arg6 harg6 arg7 harg7 arg8 harg8 arg9 harg9 arg10 harg10 arg11 harg11 arg12 harg12 _ _ _ _
    (fun n j => x4 (ix2 n j)) (fun n j => x5 (ix2 n j)) xv ?_ h8 h11 h12 _ s n).trans ?_
  · intro n j; rw [harg5.read_unread]
  · rw [show k0_pay126 (F := Ideal) (ix2 s n) = 0 from by unfold k0_pay126; exact Ideal.ofBits_zero_f32, zero_add]

/-- A point after the first: the products of the kept rows with the point's rows, summed and scaled. -/
theorem out_B_apply (hc0 : ¬cond0_0 i) (x0 : Vec Ideal S2 .f32) (x1 : Vec Ideal S1 .f32) (x2 : Vec Ideal S128x2048 .i8) (x3 : Vec Ideal S128x256 .fp8e4m3)
    (x4 : Vec Ideal S512x2048 .i8) (x5 : Vec Ideal S512x256 .fp8e4m3) (xs0 : Vec Ideal S128x4096 .bf16) (s : Fin 128) (n : Fin 512) :
    out0_B_6 c i arg1 harg1 arg2 harg2 arg3 harg3 arg4 harg4 arg5 harg5 arg6 harg6 arg7 harg7 arg8 harg8 arg9 harg9 arg10 harg10 arg11 harg11 arg12 harg12 hc0 x0 x1 x2 x3 x4 x5 xs0 (ix2 s n)
      = (∑ k : Fin 16, ∑ r : Fin 256, xs0 (ix2 s (at256 k r)) * deq (fun j => x4 (ix2 n j)) (fun j => x5 (ix2 n j)) (at256 k r))
          * x0 (ix1 ⟨s.val / 64, by omega⟩) * x1 (ix1 0) := by
  unfold out0_B_6 kernelRun0_B
  dsimp only
  sl_unfold_words
  refine (halves_apply VO0_6 _ _ _ _ _ _ (fun b => x0 (ix1 b)) (x1 (ix1 0)) ?_ ?_ ?_ ?_ s n).trans ?_
  · exact (readAt1 arg1 _ 0 _ (by omega) _).trans (by rw [harg1.read_unread]; rfl)
  · exact (readAt1 arg1 _ 1 _ (by omega) _).trans (by rw [harg1.read_unread]; rfl)
  · exact (readAt1 arg2 _ 0 _ (by omega) _).trans (by rw [harg2.read_unread]; rfl)
  · exact (readAt1 arg2 _ 0 _ (by omega) _).trans (by rw [harg2.read_unread]; rfl)
  congr 2
  exact sums_apply Variants.none c none i arg1 harg1 arg2 harg2 arg3 harg3 arg4 harg4 arg5 harg5 arg6 harg6 arg7 harg7 arg8 harg8 arg9 harg9 arg10 harg10 arg11 harg11 arg12 harg12 x4 x5 (fun s k => xs0 (ix2 s k)) _ _ _
    (fun s k => by rw [harg8.read_unread])
    (scales_apply arg11.view _ arg6 harg6 x5 0) (scales_apply arg12.view _ arg6 harg6 x5 1) s n

/-- What the decode loop leaves in a scratch, from the point's codes and scales of the activations. -/
theorem kept_apply (hc0 : k0_cond1 i = 1#1) (x2 : Vec Ideal S128x2048 .i8) (x3 : Vec Ideal S128x256 .fp8e4m3)
    {sp : Space} (v : View sig .tc sp S128x4096 .bf16) (f : BufTy.Contents (Elt Ideal) v.ty) (s : Fin 128) (k : Fin 4096) :
    v.read (Elt Ideal) (v.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 hc0 (harg3.unread x2)
        (arg9.view.writes (Elt Ideal) arg9.view.junk [⟨Rect.unit (s := S128x2x128) ![0, 0, 0] ![128, 2, 128] inb_S128x2x128_S128x2x128_0_0_0, k0_pay107 (View.readAt (Elt Ideal) arg4.view (Rect.unit (s := S128x256) ![0, 0] ![128, 256] inb_S128x256_S128x256_0_0).toLoadRect (harg4.unread x3))⟩])
        (arg10.view.writes (Elt Ideal) arg10.view.junk [⟨Rect.unit (s := S128x2x128) ![0, 0, 0] ![128, 2, 128] inb_S128x2x128_S128x2x128_0_0_0, k0_pay108 (View.readAt (Elt Ideal) arg4.view (Rect.unit (s := S128x256) ![0, 0] ![128, 256] inb_S128x256_S128x256_0_0).toLoadRect (harg4.unread x3))⟩]) 16)) (ix2 s k)
      = deq (fun j => x2 (ix2 s j)) (fun j => x3 (ix2 s j)) k := by
  refine pb_apply 𝒱 c bd i arg1 harg1 arg2 harg2 arg3 harg3 arg4 harg4 arg5 harg5 arg6 harg6 arg7 harg7 arg8 harg8 arg9 harg9 arg10 harg10 arg11 harg11 arg12 harg12 hc0 _ _ _
    (fun s j => x2 (ix2 s j)) (fun s j => x3 (ix2 s j)) ?_ ?_ ?_ v _ s k 16 le_rfl ?_
  · intro s j; rw [harg3.read_unread]
  · intro q p n
    have h := scales1_apply arg9.view arg9.view.junk arg4 harg4 x3 0 q p n
    rw [← pay107_eq] at h
    exact h
  · intro q p n
    have h := scales1_apply arg10.view arg10.view.junk arg4 harg4 x3 1 q p n
    rw [← pay108_eq] at h
    exact h
  · omega

/-- The first point leaves the dequantised activations in the scratch. -/
theorem sout_A_apply (hc0 : cond0_0 i) (x0 : Vec Ideal S2 .f32) (x1 : Vec Ideal S1 .f32) (x2 : Vec Ideal S128x2048 .i8) (x3 : Vec Ideal S128x256 .fp8e4m3)
    (x4 : Vec Ideal S512x2048 .i8) (x5 : Vec Ideal S512x256 .fp8e4m3) (s : Fin 128) (k : Fin 4096) :
    sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 (ix2 s k)
      = deq (fun j => x2 (ix2 s j)) (fun j => x3 (ix2 s j)) k := by
  unfold sout0_A_0 kernelRun0_A
  dsimp only
  sl_unfold_words
  rw [show Scf.trips (0#32) (Scalar.addi 0#32 16#32) 1#32 = 16 from trips1]
  exact kept_apply Variants.none c none i arg1 harg1 arg2 harg2 arg3 harg3 arg4 harg4 arg5 harg5 arg6 harg6 arg7 harg7 arg8 harg8 arg9 harg9 arg10 harg10 arg11 harg11 arg12 harg12 hc0 x2 x3 VS0_0 _ s k

/-- The first point: the products of the dequantised activations with the point's rows, summed and scaled. -/
theorem out_A_apply (hc0 : cond0_0 i) (x0 : Vec Ideal S2 .f32) (x1 : Vec Ideal S1 .f32) (x2 : Vec Ideal S128x2048 .i8) (x3 : Vec Ideal S128x256 .fp8e4m3)
    (x4 : Vec Ideal S512x2048 .i8) (x5 : Vec Ideal S512x256 .fp8e4m3) (s : Fin 128) (n : Fin 512) :
    out0_A_6 c i arg1 harg1 arg2 harg2 arg3 harg3 arg4 harg4 arg5 harg5 arg6 harg6 arg7 harg7 arg8 harg8 arg9 harg9 arg10 harg10 arg11 harg11 arg12 harg12 hc0 x0 x1 x2 x3 x4 x5 (ix2 s n)
      = (∑ k : Fin 16, ∑ r : Fin 256, deq (fun j => x2 (ix2 s j)) (fun j => x3 (ix2 s j)) (at256 k r) * deq (fun j => x4 (ix2 n j)) (fun j => x5 (ix2 n j)) (at256 k r))
          * x0 (ix1 ⟨s.val / 64, by omega⟩) * x1 (ix1 0) := by
  unfold out0_A_6 kernelRun0_A
  dsimp only
  sl_unfold_words
  rw [show Scf.trips (0#32) (Scalar.addi 0#32 16#32) 1#32 = 16 from trips1]
  refine (halves_apply VO0_6 _ _ _ _ _ _ (fun b => x0 (ix1 b)) (x1 (ix1 0)) ?_ ?_ ?_ ?_ s n).trans ?_
  · exact (readAt1 arg1 _ 0 _ (by omega) _).trans (by rw [harg1.read_unread]; rfl)
  · exact (readAt1 arg1 _ 1 _ (by omega) _).trans (by rw [harg1.read_unread]; rfl)
  · exact (readAt1 arg2 _ 0 _ (by omega) _).trans (by rw [harg2.read_unread]; rfl)
  · exact (readAt1 arg2 _ 0 _ (by omega) _).trans (by rw [harg2.read_unread]; rfl)
  congr 2
  exact sums_apply Variants.none c none i arg1 harg1 arg2 harg2 arg3 harg3 arg4 harg4 arg5 harg5 arg6 harg6 arg7 harg7 arg8 harg8 arg9 harg9 arg10 harg10 arg11 harg11 arg12 harg12 x4 x5
    (fun s k => deq (fun j => x2 (ix2 s j)) (fun j => x3 (ix2 s j)) k) _ _ _
    (fun s k => kept_apply Variants.none c none i arg1 harg1 arg2 harg2 arg3 harg3 arg4 harg4 arg5 harg5 arg6 harg6 arg7 harg7 arg8 harg8 arg9 harg9 arg10 harg10 arg11 harg11 arg12 harg12 hc0 x2 x3 arg8.view _ s k)
    (scales_apply arg11.view _ arg6 harg6 x5 0) (scales_apply arg12.view _ arg6 harg6 x5 1) s n

end Points

end Cert.KernelIdeal.Block
-- ==== Proof.KernelValue.lean ====
module

public import proofs.«01_k».proof.Proof.Output
public import Idealize.ShloMosaic.Lib.StableHlo.Run
public import Idealize.ShloMosaic.Lib.Tactic

/-! What the kernel's result array holds, entry by entry, in terms of its arguments. -/

@[expose] public section

set_option maxRecDepth 16384

noncomputable section

open Idealize.ShloMosaic Idealize.ShloMosaic.TcCoe Idealize.SL.Sem Idealize.ShloMosaic.ValueIdx

namespace Cert.KernelIdeal.Block

open Cert.KernelIdeal Cert.KernelIdeal.Gen Cert.KernelIdeal.Run Cert.KernelIdeal.Value

variable (m : (ℓ : Loc nD τ sig) → Buf (Elt Ideal) ℓ) (c : Dev nD)

/-- The activations' codes, as launched. -/
abbrev XC (s : Fin 128) (j : Fin 2048) : BitVec 8 := (m ((c : Thread nD τ).loc main_arg0) : Vec Ideal S1x128x2048 .i8) (ix3 0 s j)
/-- The activations' block scales, as launched. -/
abbrev XS (s : Fin 128) (j : Fin 256) : EReal := (m ((c : Thread nD τ).loc main_arg1) : Vec Ideal S1x128x256 .fp8e4m3) (ix3 0 s j)
/-- The two global scales of the activations. -/
abbrev GX (b : Fin 2) : EReal := (m ((c : Thread nD τ).loc main_arg2) : Vec Ideal S2 .f32) (ix1 b)
/-- The weights' codes. -/
abbrev WC (n : Fin 14336) (j : Fin 2048) : BitVec 8 := (m ((c : Thread nD τ).loc main_arg3) : Vec Ideal S14336x2048 .i8) (ix2 n j)
/-- The weights' block scales. -/
abbrev WS (n : Fin 14336) (j : Fin 256) : EReal := (m ((c : Thread nD τ).loc main_arg4) : Vec Ideal S14336x256 .fp8e4m3) (ix2 n j)
/-- The global scale of the weights. -/
abbrev GW : EReal := (m ((c : Thread nD τ).loc main_arg5) : Vec Ideal S1 .f32) (ix1 0)

/-- The codes the kernel is launched on: the argument without its axis of one. -/
theorem V_v0 (s : Fin 128) (j : Fin 2048) : (V m c main_v0 : Vec Ideal S128x2048 .i8) (ix2 s j) = XC m c s j := by
  show (StableHlo.after hostOps0 _ (Proc.devRef .tc main_v0) : Vec Ideal S128x2048 .i8) (ix2 s j) = _
  after_results
  show shapeCast S128x2048 (m ((c : Thread nD τ).loc main_arg0) : Vec Ideal S1x128x2048 .i8) shapeCasts_S1x128x2048_S128x2048 (ix2 s j) = _
  unfold shapeCast
  rw [Shape.reshapeEquiv_eq_of_rowMajor (y := (ix3 0 s j : S1x128x2048.Idx))]
  simp [Shape.rowMajor_val_two, Shape.rowMajor_val_three]

/-- The block scales the kernel is launched on: the argument without its axis of one. -/
theorem V_v1 (s : Fin 128) (j : Fin 256) : (V m c main_v1 : Vec Ideal S128x256 .fp8e4m3) (ix2 s j) = XS m c s j := by
  show (StableHlo.after hostOps0 _ (Proc.devRef .tc main_v1) : Vec Ideal S128x256 .fp8e4m3) (ix2 s j) = _
  after_results
  show shapeCast S128x256 (m ((c : Thread nD τ).loc main_arg1) : Vec Ideal S1x128x256 .fp8e4m3) shapeCasts_S1x128x256_S128x256 (ix2 s j) = _
  unfold shapeCast
  rw [Shape.reshapeEquiv_eq_of_rowMajor (y := (ix3 0 s j : S1x128x256.Idx))]
  simp [Shape.rowMajor_val_two, Shape.rowMajor_val_three]

/-- The index maps of the six inputs, decided over the grid. -/
theorem index_eq : ∀ t : Fin cfg0.N, win0_0.index t 0 = 0 ∧ win0_1.index t 0 = 0 ∧ win0_2.index t 0 = 0 ∧ win0_2.index t 1 = 0
    ∧ win0_3.index t 0 = 0 ∧ win0_3.index t 1 = 0 ∧ win0_4.index t 0 = t.val ∧ win0_4.index t 1 = 0
    ∧ win0_5.index t 0 = t.val ∧ win0_5.index t 1 = 0 :=
  (by decide +kernel : ∀ t : Fin grid0.N, _)

/-- Every point is given the two global scales of the activations. -/
theorem iblk0_apply (t : Fin cfg0.N) (b : Fin 2) : (iblk m c 0 t : Vec Ideal S2 .f32) (ix1 b) = GX m c b := by
  unfold iblk
  rw [View.read_apply]
  show V m c main_arg2 _ = m (c.tc.loc main_arg2) _
  rw [V_main_arg2]
  congr 1; funext a; apply Fin.ext
  match a with
  | ⟨0, _⟩ => show win0_0.index t 0 * 2 + 1 * b.val = b.val; rw [(index_eq t).1]; omega

/-- Every point is given the global scale of the weights. -/
theorem iblk1_apply (t : Fin cfg0.N) : (iblk m c 1 t : Vec Ideal S1 .f32) (ix1 0) = GW m c := by
  unfold iblk
  rw [View.read_apply]
  show V m c main_arg5 _ = m (c.tc.loc main_arg5) _
  rw [V_main_arg5]
  congr 1; funext a; apply Fin.ext
  match a with
  | ⟨0, _⟩ => show win0_1.index t 0 * 1 + 1 * 0 = 0; rw [(index_eq t).2.1]

/-- Every point is given all the activations' codes. -/
theorem iblk2_apply (t : Fin cfg0.N) (s : Fin 128) (j : Fin 2048) : (iblk m c 2 t : Vec Ideal S128x2048 .i8) (ix2 s j) = XC m c s j := by
  refine Eq.trans ?_ (V_v0 m c s j)
  unfold iblk
  rw [View.read_apply]
  show V m c main_v0 _ = V m c main_v0 _
  congr 1; funext a; apply Fin.ext
  match a with
  | ⟨0, _⟩ => show win0_2.index t 0 * 128 + 1 * s.val = s.val; rw [(index_eq t).2.2.1]; omega
  | ⟨1, _⟩ => show win0_2.index t 1 * 2048 + 1 * j.val = j.val; rw [(index_eq t).2.2.2.1]; omega

/-- Every point is given all the activations' block scales. -/
theorem iblk3_apply (t : Fin cfg0.N) (s : Fin 128) (j : Fin 256) : (iblk m c 3 t : Vec Ideal S128x256 .fp8e4m3) (ix2 s j) = XS m c s j := by
  refine Eq.trans ?_ (V_v1 m c s j)
  unfold iblk
  rw [View.read_apply]
  show V m c main_v1 _ = V m c main_v1 _
  congr 1; funext a; apply Fin.ext
  match a with
  | ⟨0, _⟩ => show win0_3.index t 0 * 128 + 1 * s.val = s.val; rw [(index_eq t).2.2.2.2.1]; omega
  | ⟨1, _⟩ => show win0_3.index t 1 * 256 + 1 * j.val = j.val; rw [(index_eq t).2.2.2.2.2.1]; omega

/-- Point `t` is given 512 rows of the weights' codes, from row `512 t`. -/
theorem iblk4_apply (t : Fin cfg0.N) (l : Fin 512) (j : Fin 2048) (n : Fin 14336) (hn : n.val = 512 * t.val + l.val) :
    (iblk m c 4 t : Vec Ideal S512x2048 .i8) (ix2 l j) = WC m c n j := by
  unfold iblk
  rw [View.read_apply]
  show V m c main_arg3 _ = m (c.tc.loc main_arg3) _
  rw [V_main_arg3]
  congr 1; funext a; apply Fin.ext
  match a with
  | ⟨0, _⟩ => show win0_4.index t 0 * 512 + 1 * l.val = n.val; rw [(index_eq t).2.2.2.2.2.2.1]; omega
  | ⟨1, _⟩ => show win0_4.index t 1 * 2048 + 1 * j.val = j.val; rw [(index_eq t).2.2.2.2.2.2.2.1]; omega

/-- Point `t` is given 512 rows of the weights' block scales, from row `512 t`. -/
theorem iblk5_apply (t : Fin cfg0.N) (l : Fin 512) (j : Fin 256) (n : Fin 14336) (hn : n.val = 512 * t.val + l.val) :
    (iblk m c 5 t : Vec Ideal S512x256 .fp8e4m3) (ix2 l j) = WS m c n j := by
  unfold iblk
  rw [View.read_apply]
  show V m c main_arg4 _ = m (c.tc.loc main_arg4) _
  rw [V_main_arg4]
  congr 1; funext a; apply Fin.ext
  match a with
  | ⟨0, _⟩ => show win0_5.index t 0 * 512 + 1 * l.val = n.val; rw [(index_eq t).2.2.2.2.2.2.2.2.1]; omega
  | ⟨1, _⟩ => show win0_5.index t 1 * 256 + 1 * j.val = j.val; rw [(index_eq t).2.2.2.2.2.2.2.2.2]; omega

/-- After every point the scratch holds the dequantised activations. -/
theorem kept (s : Fin 128) (k : Fin 4096) : ∀ (n : ℕ) (hn : n < cfg0.N),
    (outsAt0 m c n hn).2 (ix2 s k) = deq (XC m c s) (XS m c s) k
  | 0, hn => by
    rw [outsAt0_A m c ⟨0, hn⟩ rfl]
    dsimp only
    rw [sout_A_apply]
    congr 1
    · funext j; exact iblk2_apply m c _ s j
    · funext j; exact iblk3_apply m c _ s j
  | n + 1, hn => by
    have hN : cfg0.N = 28 := N_0
    rw [outsAt0_B m c ⟨n + 1, hn⟩ (by dsimp only; omega)]
    exact kept s k n (Nat.lt_of_succ_lt hn)

/-- One entry of the kernel's result: the dot product of the dequantised rows, block by block, times the two global scales. -/
def entry (s : Fin 128) (n : Fin 14336) : EReal :=
  (∑ k : Fin 16, ∑ r : Fin 256, deq (XC m c s) (XS m c s) (at256 k r) * deq (WC m c n) (WS m c n) (at256 k r))
    * GX m c ⟨s.val / 64, by omega⟩ * GW m c

/-- Point `t` leaves columns `512 t …` of the result in its block. -/
theorem block_eq (t : Fin cfg0.N) (s : Fin 128) (l : Fin 512) (n : Fin 14336) (hn : n.val = 512 * t.val + l.val) :
    (outsAt0 m c t.val t.isLt).1 (ix2 s l) = entry m c s n := by
  have h4 : (fun j => (iblk m c 4 t : Vec Ideal S512x2048 .i8) (ix2 l j)) = WC m c n := funext fun j => iblk4_apply m c t l j n hn
  have h5 : (fun j => (iblk m c 5 t : Vec Ideal S512x256 .fp8e4m3) (ix2 l j)) = WS m c n := funext fun j => iblk5_apply m c t l j n hn
  unfold entry
  by_cases h : t.val % 28 = 0
  · have h2 : (fun j => (iblk m c 2 t : Vec Ideal S128x2048 .i8) (ix2 s j)) = XC m c s := funext fun j => iblk2_apply m c t s j
    have h3 : (fun j => (iblk m c 3 t : Vec Ideal S128x256 .fp8e4m3) (ix2 s j)) = XS m c s := funext fun j => iblk3_apply m c t s j
    rw [outsAt0_A m c t h]
    dsimp only
    rw [out_A_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h) (iblk m c 0 t) (iblk m c 1 t) (iblk m c 2 t) (iblk m c 3 t) (iblk m c 4 t) (iblk m c 5 t) s l]
    rw [h2, h3, h4, h5, iblk0_apply, iblk1_apply]
  · rw [outsAt0_B m c t h]
    dsimp only
    rw [out_B_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun e => h ((hcond0_0 t).mp e)) (iblk m c 0 t) (iblk m c 1 t) (iblk m c 2 t) (iblk m c 3 t) (iblk m c 4 t) (iblk m c 5 t) (outsAt0 m c (t.val - 1) (Nat.lt_of_le_of_lt (Nat.sub_le _ _) t.isLt)).2 s l]
    rw [h4, h5, iblk0_apply, iblk1_apply]
    simp only [kept]

/-- The kernel's result array, at an index. -/
theorem result_apply (s : Fin 128) (n : Fin 14336) : (G6 m c : Vec Ideal S128x14336 .bf16) (ix2 s n) = entry m c s n := by
  have hN : cfg0.N = 28 := N_0
  have hp : pt6Of (ix2 s n) = n.val / 512 := by
    show 28 * (s.val / 128 - 0) + 1 * (n.val / 512 - 0) = n.val / 512
    omega
  have hl : n.val / 512 < cfg0.N := by omega
  refine Eq.trans ?_ (block_eq m c ⟨n.val / 512, hl⟩ s ⟨n.val % 512, by omega⟩ n (by dsimp only; omega))
  dsimp only
  rw [outsAt0_sweep]
  unfold G6
  have hloc : loc6Of (ix2 s n) = ix2 s ⟨n.val % 512, by omega⟩ := by
    funext a
    match a with
    | ⟨0, _⟩ => exact Fin.ext (by show s.val % 128 = s.val; omega)
    | ⟨1, _⟩ => rfl
  rw [dif_pos (by rw [hp]; exact hl), fold0_congr m c _ _ (n.val / 512) (by omega) hp, hloc]

end Cert.KernelIdeal.Block
-- ==== Proof.RefBody.lean ====
module

public import proofs.«01_k».proof.Proof.Gen.ReferenceIdeal.Frame
public import Idealize.ShloMosaic.Lib.ValueIdx
public import Idealize.ShloMosaic.Lib.ValueLayout
public import Idealize.ShloMosaic.Lib.MatmulPlain
public import Idealize.ShloMosaic.Lib.Pipeline.Value

/-! What the reference's body computes at an index: each operand dequantised in two halves (the low nibbles and the high
nibbles), two matrix products, and the two global scales. -/

@[expose] public section

set_option maxRecDepth 16384

noncomputable section

open Idealize.ShloMosaic Idealize.ShloMosaic.TcCoe Idealize.SL.Sem Idealize.ShloMosaic.ValueIdx

namespace Cert.ReferenceIdeal.Body

open Cert.ReferenceIdeal Cert.ReferenceIdeal.Gen

/-- The bf16 bits of the e2m1 number in the low four bits of a word, by exponent and mantissa. -/
def refBits (n : BitVec 32) : BitVec 16 :=
  (IntOp.ori
    (Scalar.select (IntOp.cmpi .sgt (IntOp.andi (IntOp.shrsi .vector n 1#32) 3#32) 0#32)
      (IntOp.ori (IntOp.shli .vector (IntOp.addi (IntOp.andi (IntOp.shrsi .vector n 1#32) 3#32) 126#32) 7#32)
        (IntOp.shli .vector (IntOp.andi n 1#32) 6#32))
      (IntOp.muli (IntOp.andi n 1#32) 16128#32))
    (IntOp.shli .vector (IntOp.andi n 8#32) 12#32)).setWidth 16

/-- The value of the low nibble of a byte. -/
def lo (b : BitVec 8) : EReal := Ideal.ofBits .bf16 (refBits (IntOp.andi (b.setWidth 32) 15#32))
/-- The value of the high nibble of a byte. -/
def hi (b : BitVec 8) : EReal := Ideal.ofBits .bf16 (refBits (IntOp.shrsi .vector (b.setWidth 32) 4#32))

/-- Rows cut in groups of eight, each group times its scale, put back together: value `j` is times the scale of group `j / 8`. -/
theorem scaled_apply {d : ℕ} (v : (⟨2, ![d, 2048]⟩ : Shape).Idx → EReal) (s : (⟨2, ![d, 256]⟩ : Shape).Idx → EReal)
    (h1 : (⟨2, ![d, 2048]⟩ : Shape).ShapeCasts ⟨3, ![d, 256, 8]⟩) (h2 : (⟨2, ![d, 256]⟩ : Shape).ShapeCasts ⟨3, ![d, 256, 1]⟩)
    (h3 : (⟨3, ![d, 256, 1]⟩ : Shape).Broadcasts ⟨3, ![d, 256, 8]⟩) (h4 : (⟨3, ![d, 256, 8]⟩ : Shape).ShapeCasts ⟨2, ![d, 2048]⟩)
    (r : Fin d) (j : Fin 2048) :
    shapeCast ⟨2, ![d, 2048]⟩ (mulf (F := Ideal) (φ := .bf16) (shapeCast ⟨3, ![d, 256, 8]⟩ v h1)
        (broadcastTo ⟨3, ![d, 256, 8]⟩ (shapeCast ⟨3, ![d, 256, 1]⟩ s h2) h3)) h4 (ix2 r j)
      = v (ix2 r j) * s (ix2 r ⟨j.val / 8, by omega⟩) := by
  rw [shapeCast_apply _ h4 (ix2 r j) (ix3 r (⟨j.val / 8, by omega⟩ : Fin 256) (⟨j.val % 8, by omega⟩ : Fin 8))
    (by rw [Shape.rowMajor_val_two, Shape.rowMajor_val_three]; show (r.val * 256 + j.val / 8) * 8 + j.val % 8 = r.val * 2048 + j.val; omega)]
  show (shapeCast ⟨3, ![d, 256, 8]⟩ v h1 _ : EReal) * broadcastTo ⟨3, ![d, 256, 8]⟩ (shapeCast ⟨3, ![d, 256, 1]⟩ s h2) h3 _ = _
  rw [shapeCast_apply v h1 _ (ix2 r j) (by rw [Shape.rowMajor_val_two, Shape.rowMajor_val_three]; show r.val * 2048 + j.val = (r.val * 256 + j.val / 8) * 8 + j.val % 8; omega),
    broadcastTo_apply _ h3 _ (ix3 r (⟨j.val / 8, by omega⟩ : Fin 256) (0 : Fin 1)) (by
      intro a
      match a with
      | ⟨0, _⟩ =>
        show r.val = if d = 1 then 0 else r.val
        split
        · omega
        · rfl
      | ⟨1, _⟩ => rfl
      | ⟨2, _⟩ => rfl),
    shapeCast_apply s h2 _ (ix2 r (⟨j.val / 8, by omega⟩ : Fin 256)) (by rw [Shape.rowMajor_val_two, Shape.rowMajor_val_three]; show r.val * 256 + j.val / 8 = (r.val * 256 + j.val / 8) * 1 + 0; omega)]

/-- The low half of the activations. -/
theorem xlo_apply (x : Vec Ideal S128x2048 .i8) (s : Vec Ideal S128x256 .fp8e4m3) (r : Fin 128) (j : Fin 2048) :
    k0_pay4 x s (ix2 r j) = lo (x (ix2 r j)) * s (ix2 r ⟨j.val / 8, by omega⟩) := by
  unfold k0_pay4 k0_pay3 k0_pay2
  simp only [shapeCast_self]
  exact scaled_apply (d := 128) _ _ _ _ _ _ r j

/-- The high half of the activations. -/
theorem xhi_apply (x : Vec Ideal S128x2048 .i8) (s : Vec Ideal S128x256 .fp8e4m3) (r : Fin 128) (j : Fin 2048) :
    k0_pay7 (k0_pay2 s) (k0_pay5 x) (k0_pay6 x) 3#32 (ix2 r j) = hi (x (ix2 r j)) * s (ix2 r ⟨j.val / 8, by omega⟩) := by
  unfold k0_pay7 k0_pay6 k0_pay5 k0_pay3 k0_pay2
  simp only [shapeCast_self]
  exact scaled_apply (d := 128) _ _ _ _ _ _ r j

/-- The low half of the weights. -/
theorem wlo_apply (w : Vec Ideal S14336x2048 .i8) (s : Vec Ideal S14336x256 .fp8e4m3) (r : Fin 14336) (j : Fin 2048) :
    k0_pay14 (k0_pay8 s) (k0_pay10 w) (k0_pay11 w) (k0_pay12 w) (k0_pay13 w) 7#32 (ix2 r j)
      = lo (w (ix2 r j)) * s (ix2 r ⟨j.val / 8, by omega⟩) := by
  unfold k0_pay14 k0_pay13 k0_pay12 k0_pay11 k0_pay10 k0_pay9 k0_pay8
  exact scaled_apply (d := 14336) _ _ _ _ _ _ r j

/-- The high half of the weights, as the body's last step builds it. -/
def whi (w : Vec Ideal S14336x2048 .i8) (s : Vec Ideal S14336x256 .fp8e4m3) : FVec Ideal S14336x2048 .bf16 :=
  shapeCast S14336x2048 (mulf (shapeCast S14336x256x8
      (bitcastToFloat .bf16 (trunci 16 (ori (k0_pay16 (k0_pay9 w)) (shli (k0_pay17 (k0_pay9 w)) k0_pay18)) natLt_16_32))
      shapeCasts_S14336x2048_S14336x256x8)
    (broadcastTo S14336x256x8 (k0_pay8 s) broadcasts_S14336x256x1_S14336x256x8)) shapeCasts_S14336x256x8_S14336x2048

/-- The high half of the weights at an index. -/
theorem whi_apply (w : Vec Ideal S14336x2048 .i8) (s : Vec Ideal S14336x256 .fp8e4m3) (r : Fin 14336) (j : Fin 2048) :
    whi w s (ix2 r j) = hi (w (ix2 r j)) * s (ix2 r ⟨j.val / 8, by omega⟩) := by
  unfold whi k0_pay18 k0_pay17 k0_pay16 k0_pay15 k0_pay9 k0_pay8
  exact scaled_apply (d := 14336) _ _ _ _ _ _ r j

/-- The reference's matrix product, both operands contracted on their columns, over zeros. -/
theorem product_apply (a : FVec Ideal S128x2048 .bf16) (b : FVec Ideal S14336x2048 .bf16) (s : Fin 128) (n : Fin 14336) :
    matmul dot_S128x2048_S14336x2048_S128x14336_1_1_0_0_n_n none a b (constant S128x14336 .f32 0x00000000#32) (ix2 s n)
      = ∑ j : Fin 2048, a (ix2 s j) * b (ix2 n j) := by
  refine Eq.trans (Ideal.matmul_transposedRhs_apply (M := 128) (K := 2048) (N := 14336) none a b _ s n) ?_
  rw [constant_apply, Ideal.ofBits_zero_f32, zero_add]

/-- The body's last step at an index. -/
theorem pay1_apply (xl xh : FVec Ideal S128x2048 .bf16) (wl : FVec Ideal S14336x2048 .bf16) (w : Vec Ideal S14336x2048 .i8)
    (s : Vec Ideal S14336x256 .fp8e4m3) (g : Vec Ideal S128x1 .f32) (gw : Vec Ideal S1x1 .f32) (r : Fin 128) (n : Fin 14336) :
    k0_pay1 xl xh (k0_pay8 s) wl (k0_pay16 (k0_pay9 w)) (k0_pay17 (k0_pay9 w)) k0_pay18 g gw (ix2 r n)
      = (∑ j : Fin 2048, xl (ix2 r j) * wl (ix2 n j) + ∑ j : Fin 2048, xh (ix2 r j) * whi w s (ix2 n j)) * g (ix2 r 0) * gw (ix2 0 0) := by
  unfold k0_pay1
  simp only [shapeCast_self]
  rw [truncf_apply, mulf_apply, mulf_apply, addf_apply, product_apply, product_apply,
    broadcastTo_apply g broadcasts_S128x1_S128x14336 (ix2 r n) (ix2 r 0) (by
      intro a
      match a with
      | ⟨0, _⟩ => rfl
      | ⟨1, _⟩ => rfl),
    broadcastTo_apply gw broadcasts_S1x1_S128x14336 (ix2 r n) (ix2 0 0) (by
      intro a
      match a with
      | ⟨0, _⟩ => rfl
      | ⟨1, _⟩ => rfl)]
  rfl

/-- What the reference's body leaves at an index, from its six inputs. -/
theorem out_apply (x0 : Vec Ideal S128x2048 .i8) (x1 : Vec Ideal S128x256 .fp8e4m3) (x2 : Vec Ideal S128x1 .f32) (x3 : Vec Ideal S14336x2048 .i8)
    (x4 : Vec Ideal S14336x256 .fp8e4m3) (x5 : Vec Ideal S1x1 .f32) (s : Fin 128) (n : Fin 14336) :
    out0_6 x0 x1 x2 x3 x4 x5 (ix2 s n)
      = (∑ j : Fin 2048, lo (x0 (ix2 s j)) * x1 (ix2 s ⟨j.val / 8, by omega⟩) * (lo (x3 (ix2 n j)) * x4 (ix2 n ⟨j.val / 8, by omega⟩))
          + ∑ j : Fin 2048, hi (x0 (ix2 s j)) * x1 (ix2 s ⟨j.val / 8, by omega⟩) * (hi (x3 (ix2 n j)) * x4 (ix2 n ⟨j.val / 8, by omega⟩)))
        * x2 (ix2 s 0) * x5 (ix2 0 0) := by
  have hz : (![0, 0] : Fin 2 → Nat) = fun _ => 0 := funext fun a => by fin_cases a <;> rfl
  unfold out0_6
  rw [View.canon_unit_zero hz]
  unfold k0_pay19 k0_pay20
  rw [View.ld_unit_zero (S := S128x2048) hz, View.ld_unit_zero (S := S128x256) hz, View.ld_unit_zero (S := S14336x2048) hz,
    View.ld_unit_zero (S := S14336x256) hz, View.ld_unit_zero (S := S128x1) hz, View.ld_unit_zero (S := S1x1) hz, pay1_apply]
  simp only [xlo_apply, xhi_apply, wlo_apply, whi_apply]

end Cert.ReferenceIdeal.Body
-- ==== Proof.ReferenceValue.lean ====
module

public import proofs.«01_k».proof.Proof.RefBody
public import proofs.«01_k».proof.Proof.Gen.ReferenceIdeal.Value
public import Idealize.ShloMosaic.Lib.StableHlo.Run
public import Idealize.ShloMosaic.Lib.Tactic

/-! What the reference's result array holds, entry by entry, in terms of its arguments. -/

@[expose] public section

set_option maxRecDepth 16384

noncomputable section

open Idealize.ShloMosaic Idealize.ShloMosaic.TcCoe Idealize.SL.Sem Idealize.ShloMosaic.ValueIdx

namespace Cert.ReferenceIdeal.Body

open Cert.ReferenceIdeal Cert.ReferenceIdeal.Gen Cert.ReferenceIdeal.Value

variable (m : (ℓ : Loc nD τ sig) → Buf (Elt Ideal) ℓ) (c : Dev nD)

/-- The activations' codes, as launched. -/
abbrev XC (s : Fin 128) (j : Fin 2048) : BitVec 8 := (m ((c : Thread nD τ).loc main_arg0) : Vec Ideal S1x128x2048 .i8) (ix3 0 s j)
/-- The activations' block scales, as launched. -/
abbrev XS (s : Fin 128) (j : Fin 256) : EReal := (m ((c : Thread nD τ).loc main_arg1) : Vec Ideal S1x128x256 .fp8e4m3) (ix3 0 s j)
/-- The two global scales of the activations. -/
abbrev GX (b : Fin 2) : EReal := (m ((c : Thread nD τ).loc main_arg2) : Vec Ideal S2 .f32) (ix1 b)
/-- The weights' codes. -/
abbrev WC (n : Fin 14336) (j : Fin 2048) : BitVec 8 := (m ((c : Thread nD τ).loc main_arg3) : Vec Ideal S14336x2048 .i8) (ix2 n j)
/-- The weights' block scales. -/
abbrev WS (n : Fin 14336) (j : Fin 256) : EReal := (m ((c : Thread nD τ).loc main_arg4) : Vec Ideal S14336x256 .fp8e4m3) (ix2 n j)
/-- The global scale of the weights. -/
abbrev GW : EReal := (m ((c : Thread nD τ).loc main_arg5) : Vec Ideal S1 .f32) (ix1 0)

/-- The codes the body is launched on: the argument without its axis of one. -/
theorem V_v3 (s : Fin 128) (j : Fin 2048) : (V m c main_v3 : Vec Ideal S128x2048 .i8) (ix2 s j) = XC m c s j := by
  show (StableHlo.after hostOps0 _ (Proc.devRef .tc main_v3) : Vec Ideal S128x2048 .i8) (ix2 s j) = _
  after_results
  show shapeCast S128x2048 (m ((c : Thread nD τ).loc main_arg0) : Vec Ideal S1x128x2048 .i8) shapeCasts_S1x128x2048_S128x2048 (ix2 s j) = _
  rw [shapeCast_apply _ _ _ (ix3 0 s j : S1x128x2048.Idx)]
  simp [Shape.rowMajor_val_two, Shape.rowMajor_val_three]

/-- The block scales the body is launched on: the argument without its axis of one. -/
theorem V_v4 (s : Fin 128) (j : Fin 256) : (V m c main_v4 : Vec Ideal S128x256 .fp8e4m3) (ix2 s j) = XS m c s j := by
  show (StableHlo.after hostOps0 _ (Proc.devRef .tc main_v4) : Vec Ideal S128x256 .fp8e4m3) (ix2 s j) = _
  after_results
  show shapeCast S128x256 (m ((c : Thread nD τ).loc main_arg1) : Vec Ideal S1x128x256 .fp8e4m3) shapeCasts_S1x128x256_S128x256 (ix2 s j) = _
  rw [shapeCast_apply _ _ _ (ix3 0 s j : S1x128x256.Idx)]
  simp [Shape.rowMajor_val_two, Shape.rowMajor_val_three]

/-- The column of global scales: row `s` has the scale of its half. -/
theorem V_v2 (s : Fin 128) : (V m c main_v2 : Vec Ideal S128x1 .f32) (ix2 s 0) = GX m c ⟨s.val / 64, by omega⟩ := by
  show (StableHlo.after hostOps0 _ (Proc.devRef .tc main_v2) : Vec Ideal S128x1 .f32) (ix2 s 0) = _
  after_results
  show shapeCast S128x1 (shapeCast S128 (broadcastInDim S2x64 ![0] _ (m ((c : Thread nD τ).loc main_arg2) : Vec Ideal S2 .f32)) _) _ (ix2 s 0) = _
  rw [shapeCast_apply _ _ _ (ix1 s : S128.Idx) (by rw [Shape.rowMajor_val_one, Shape.rowMajor_val_two]; show s.val = s.val * 1 + 0; omega),
    shapeCast_apply _ _ _ (ix2 (⟨s.val / 64, by omega⟩ : Fin 2) (⟨s.val % 64, by omega⟩ : Fin 64) : S2x64.Idx)
      (by rw [Shape.rowMajor_val_one, Shape.rowMajor_val_two]; show s.val / 64 * 64 + s.val % 64 = s.val; omega),
    broadcastInDim_apply _ _ _ _ (ix1 (⟨s.val / 64, by omega⟩ : Fin 2) : S2.Idx) (by intro a; match a with | ⟨0, _⟩ => rfl)]

/-- The weights' global scale, as an array of one row and one column. -/
theorem V_v5 : (V m c main_v5 : Vec Ideal S1x1 .f32) (ix2 0 0) = GW m c := by
  show (StableHlo.after hostOps0 _ (Proc.devRef .tc main_v5) : Vec Ideal S1x1 .f32) (ix2 0 0) = _
  after_results
  show shapeCast S1x1 (m ((c : Thread nD τ).loc main_arg5) : Vec Ideal S1 .f32) _ (ix2 0 0) = _
  rw [shapeCast_apply _ _ _ (ix1 0 : S1.Idx) (by rw [Shape.rowMajor_val_one, Shape.rowMajor_val_two]; rfl)]

/-- Every window's one block starts at the array's origin. -/
theorem index_eq : ∀ t : Fin cfg0.N, win0_0.index t 0 = 0 ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0 ∧ win0_4.index t 0 = 0 ∧ win0_4.index t 1 = 0
    ∧ win0_5.index t 0 = 0 ∧ win0_5.index t 1 = 0 ∧ win0_6.index t 0 = 0 ∧ win0_6.index t 1 = 0 :=
  (by decide +kernel : ∀ t : Fin grid0.N, _)

/-- The block of codes of the activations is all of them. -/
theorem iblk0_apply (t : Fin cfg0.N) (s : Fin 128) (j : Fin 2048) : (iblk m c 0 t : Vec Ideal S128x2048 .i8) (ix2 s j) = XC m c s j := by
  refine Eq.trans ?_ (V_v3 m c s j)
  unfold iblk
  rw [View.read_apply]
  show V m c main_v3 _ = V m c main_v3 _
  congr 1; funext a; apply Fin.ext
  match a with
  | ⟨0, _⟩ => show win0_0.index t 0 * 128 + 1 * s.val = s.val; rw [(index_eq t).1]; omega
  | ⟨1, _⟩ => show win0_0.index t 1 * 2048 + 1 * j.val = j.val; rw [(index_eq t).2.1]; omega

/-- The block of block scales of the activations is all of them. -/
theorem iblk1_apply (t : Fin cfg0.N) (s : Fin 128) (j : Fin 256) : (iblk m c 1 t : Vec Ideal S128x256 .fp8e4m3) (ix2 s j) = XS m c s j := by
  refine Eq.trans ?_ (V_v4 m c s j)
  unfold iblk
  rw [View.read_apply]
  show V m c main_v4 _ = V m c main_v4 _
  congr 1; funext a; apply Fin.ext
  match a with
  | ⟨0, _⟩ => show win0_1.index t 0 * 128 + 1 * s.val = s.val; rw [(index_eq t).2.2.1]; omega
  | ⟨1, _⟩ => show win0_1.index t 1 * 256 + 1 * j.val = j.val; rw [(index_eq t).2.2.2.1]; omega

/-- The block of global scales, row by row. -/
theorem iblk2_apply (t : Fin cfg0.N) (s : Fin 128) : (iblk m c 2 t : Vec Ideal S128x1 .f32) (ix2 s 0) = GX m c ⟨s.val / 64, by omega⟩ := by
  refine Eq.trans ?_ (V_v2 m c s)
  unfold iblk
  rw [View.read_apply]
  show V m c main_v2 _ = V m c main_v2 _
  congr 1; funext a; apply Fin.ext
  match a with
  | ⟨0, _⟩ => show win0_2.index t 0 * 128 + 1 * s.val = s.val; rw [(index_eq t).2.2.2.2.1]; omega
  | ⟨1, _⟩ => show win0_2.index t 1 * 1 + 1 * 0 = 0; rw [(index_eq t).2.2.2.2.2.1]

/-- The block of the weights' codes is all of them. -/
theorem iblk3_apply (t : Fin cfg0.N) (n : Fin 14336) (j : Fin 2048) : (iblk m c 3 t : Vec Ideal S14336x2048 .i8) (ix2 n j) = WC m c n j := by
  unfold iblk
  rw [View.read_apply]
  show V m c main_arg3 _ = m (c.tc.loc main_arg3) _
  rw [V_main_arg3]
  congr 1; funext a; apply Fin.ext
  match a with
  | ⟨0, _⟩ => show win0_3.index t 0 * 14336 + 1 * n.val = n.val; rw [(index_eq t).2.2.2.2.2.2.1]; omega
  | ⟨1, _⟩ => show win0_3.index t 1 * 2048 + 1 * j.val = j.val; rw [(index_eq t).2.2.2.2.2.2.2.1]; omega

/-- The block of the weights' block scales is all of them. -/
theorem iblk4_apply (t : Fin cfg0.N) (n : Fin 14336) (j : Fin 256) : (iblk m c 4 t : Vec Ideal S14336x256 .fp8e4m3) (ix2 n j) = WS m c n j := by
  unfold iblk
  rw [View.read_apply]
  show V m c main_arg4 _ = m (c.tc.loc main_arg4) _
  rw [V_main_arg4]
  congr 1; funext a; apply Fin.ext
  match a with
  | ⟨0, _⟩ => show win0_4.index t 0 * 14336 + 1 * n.val = n.val; rw [(index_eq t).2.2.2.2.2.2.2.2.1]; omega
  | ⟨1, _⟩ => show win0_4.index t 1 * 256 + 1 * j.val = j.val; rw [(index_eq t).2.2.2.2.2.2.2.2.2.1]; omega

/-- The block of the weights' global scale. -/
theorem iblk5_apply (t : Fin cfg0.N) : (iblk m c 5 t : Vec Ideal S1x1 .f32) (ix2 0 0) = GW m c := by
  refine Eq.trans ?_ (V_v5 m c)
  unfold iblk
  rw [View.read_apply]
  show V m c main_v5 _ = V m c main_v5 _
  congr 1; funext a; apply Fin.ext
  match a with
  | ⟨0, _⟩ => show win0_5.index t 0 * 1 + 1 * 0 = 0; rw [(index_eq t).2.2.2.2.2.2.2.2.2.2.1]
  | ⟨1, _⟩ => show win0_5.index t 1 * 1 + 1 * 0 = 0; rw [(index_eq t).2.2.2.2.2.2.2.2.2.2.2.1]

/-- One entry of the reference's result: the low halves' dot product plus the high halves', times the two global scales. -/
def entry (s : Fin 128) (n : Fin 14336) : EReal :=
  (∑ j : Fin 2048, lo (XC m c s j) * XS m c s ⟨j.val / 8, by omega⟩ * (lo (WC m c n j) * WS m c n ⟨j.val / 8, by omega⟩)
    + ∑ j : Fin 2048, hi (XC m c s j) * XS m c s ⟨j.val / 8, by omega⟩ * (hi (WC m c n j) * WS m c n ⟨j.val / 8, by omega⟩))
  * GX m c ⟨s.val / 64, by omega⟩ * GW m c

/-- The reference's result array: its entries. -/
def result : Vec Ideal S128x14336 .bf16 := fun i => entry m c (i 0) (i 1)

/-- The body leaves the entries. -/
theorem out_eq (t : Fin cfg0.N) :
    out0_6 (iblk m c 0 t) (iblk m c 1 t) (iblk m c 2 t) (iblk m c 3 t) (iblk m c 4 t) (iblk m c 5 t) = result m c := by
  funext i
  obtain ⟨s, n, rfl⟩ : ∃ (s : Fin 128) (n : Fin 14336), i = ix2 s n :=
    ⟨i 0, i 1, by funext a; match a with | ⟨0, _⟩ => rfl | ⟨1, _⟩ => rfl⟩
  rw [out_apply]
  simp only [iblk0_apply, iblk1_apply, iblk2_apply, iblk3_apply, iblk4_apply, iblk5_apply]
  rfl

/-- The one write-back writes the whole result. -/
theorem flushed_eq (t : Fin cfg0.N) :
    (dats m 0 c).flushed 6 t = ((cfg0.win 6).blk t).view.read (Elt Ideal) (result m c : Buf (Elt Ideal) ((c : Thread nD τ).loc main_v6)) := by
  rw [flushed6, out_eq]
  have hz' : (fun a => win0_6.index t a * main_v6.ty.shape.size a) = fun _ => 0 := by
    funext a
    match a with
    | ⟨0, _⟩ => show win0_6.index t 0 * _ = 0; rw [(index_eq t).2.2.2.2.2.2.2.2.2.2.2.2.1]; omega
    | ⟨1, _⟩ => show win0_6.index t 1 * _ = 0; rw [(index_eq t).2.2.2.2.2.2.2.2.2.2.2.2.2]; omega
  exact (Memref.read_access_unit_zero (Elt Ideal) main_v6 hz' (fun a => by rw [congrFun hz' a]; simp) (result m c)).symm

/-- So the reference's array ends holding the entries. -/
theorem final : (dats m 0 c).arrAt 6 cfg0.N = (result m c : Buf (Elt Ideal) ((c : Thread nD τ).loc main_v6)) :=
  (dats m 0 c).arrAt_eq_of_cover 6 (result m c) (fun t _ => flushed_eq m c t) fun i =>
    ⟨t0_0, (by decide +kernel : ∀ t : Fin grid0.N, win0_6.flush t = true) t0_0, by
      show i ∈ ((View.whole main_v6).slice (win0_6.rect t0_0)).set
      rw [View.set_slice_whole, Rect.mem_set_unit]
      intro a
      have h0 : (i 0 : Nat) < 128 := (i 0).isLt
      have h1 : (i 1 : Nat) < 14336 := (i 1).isLt
      match a with
      | ⟨0, _⟩ => show win0_6.index t0_0 0 * win0_6.size 0 ≤ (i 0 : Nat) ∧ (i 0 : Nat) < win0_6.index t0_0 0 * win0_6.size 0 + win0_6.xsize (grid0.coords t0_0) 0
                  rw [show win0_6.index t0_0 0 * win0_6.size 0 = 0 from by decide +kernel, show win0_6.xsize (grid0.coords t0_0) 0 = 128 from by decide +kernel]; omega
      | ⟨1, _⟩ => show win0_6.index t0_0 1 * win0_6.size 1 ≤ (i 1 : Nat) ∧ (i 1 : Nat) < win0_6.index t0_0 1 * win0_6.size 1 + win0_6.xsize (grid0.coords t0_0) 1
                  rw [show win0_6.index t0_0 1 * win0_6.size 1 = 0 from by decide +kernel, show win0_6.xsize (grid0.coords t0_0) 1 = 14336 from by decide +kernel]; omega⟩

end Cert.ReferenceIdeal.Body
-- ==== Proof.Equation.lean ====
module

public import proofs.«01_k».proof.Proof.KernelValue
public import proofs.«01_k».proof.Proof.ReferenceValue

/-! The kernel's entry is the reference's: the two ways of decoding a nibble agree on all 256 bytes, and the kernel's sum over
16 blocks of 256 values is the reference's two sums over the even and the odd values. -/

@[expose] public section

set_option maxRecDepth 16384

noncomputable section

open Idealize.ShloMosaic Idealize.ShloMosaic.TcCoe Idealize.SL.Sem Idealize.ShloMosaic.ValueIdx

namespace Cert.Equation

open Cert.KernelIdeal.Block (deq dec at256 pairBits1)
open Cert.ReferenceIdeal.Body (lo hi refBits)

/-- The two decodings' bits of the low nibble agree, on every byte. -/
theorem bits_lo : ∀ b : Fin 256, (pairBits1 ((BitVec.ofFin b : BitVec 8).setWidth 32)).extractLsb' (16 * 0) 16
    = refBits (IntOp.andi ((BitVec.ofFin b : BitVec 8).setWidth 32) 15#32) := by decide +kernel

/-- The two decodings' bits of the high nibble agree, on every byte. -/
theorem bits_hi : ∀ b : Fin 256, (pairBits1 ((BitVec.ofFin b : BitVec 8).setWidth 32)).extractLsb' (16 * 1) 16
    = refBits (IntOp.shrsi .vector ((BitVec.ofFin b : BitVec 8).setWidth 32) 4#32) := by decide +kernel

/-- The kernel's low nibble is the reference's. -/
theorem dec_lo (b : BitVec 8) : dec 0 b = lo b := congrArg (Ideal.ofBits .bf16) (bits_lo b.toFin)

/-- The kernel's high nibble is the reference's. -/
theorem dec_hi (b : BitVec 8) : dec 1 b = hi b := congrArg (Ideal.ofBits .bf16) (bits_hi b.toFin)

/-- An even value of the kernel's dequantised row is a value of the reference's low half. -/
theorem deq_even (cd : Fin 2048 → BitVec 8) (sc : Fin 256 → EReal) (j : Fin 2048) :
    deq cd sc ⟨2 * j.val, by omega⟩ = lo (cd j) * sc ⟨j.val / 8, by omega⟩ := by
  unfold deq
  rw [← dec_lo]
  have e0 : 2 * j.val % 2 = 0 := by omega
  have e1 : (⟨2 * j.val / 2, by omega⟩ : Fin 2048) = j := Fin.ext (by show 2 * j.val / 2 = j.val; omega)
  have e2 : (⟨2 * j.val / 16, by omega⟩ : Fin 256) = ⟨j.val / 8, by omega⟩ := Fin.ext (by show 2 * j.val / 16 = j.val / 8; omega)
  dsimp only
  rw [e0, e1, e2]

/-- An odd value of the kernel's dequantised row is a value of the reference's high half. -/
theorem deq_odd (cd : Fin 2048 → BitVec 8) (sc : Fin 256 → EReal) (j : Fin 2048) :
    deq cd sc ⟨2 * j.val + 1, by omega⟩ = hi (cd j) * sc ⟨j.val / 8, by omega⟩ := by
  unfold deq
  rw [← dec_hi]
  have e0 : (2 * j.val + 1) % 2 = 1 := by omega
  have e1 : (⟨(2 * j.val + 1) / 2, by omega⟩ : Fin 2048) = j := Fin.ext (by show (2 * j.val + 1) / 2 = j.val; omega)
  have e2 : (⟨(2 * j.val + 1) / 16, by omega⟩ : Fin 256) = ⟨j.val / 8, by omega⟩ :=
    Fin.ext (by show (2 * j.val + 1) / 16 = j.val / 8; omega)
  dsimp only
  rw [e0, e1, e2]

/-- A sum over 16 blocks of 256 is the sum over all 4096. -/
theorem sum_blocks (f : Fin 4096 → EReal) : ∑ k : Fin 16, ∑ r : Fin 256, f (at256 k r) = ∑ i : Fin 4096, f i := by
  rw [← Fintype.sum_prod_type' (fun k r => f (at256 k r))]
  refine Fintype.sum_equiv (finProdFinEquiv (m := 16) (n := 256)) _ _ fun p => congrArg f (Fin.ext ?_)
  show 256 * p.1.val + p.2.val = p.2.val + 256 * p.1.val
  omega

/-- A sum over 4096 is the sum over the even values plus the sum over the odd ones. -/
theorem sum_halves (f : Fin 4096 → EReal) :
    ∑ i : Fin 4096, f i = ∑ j : Fin 2048, f ⟨2 * j.val, by omega⟩ + ∑ j : Fin 2048, f ⟨2 * j.val + 1, by omega⟩ := by
  rw [← Finset.sum_add_distrib, ← Equiv.sum_comp (finProdFinEquiv (m := 2048) (n := 2)) f, Fintype.sum_prod_type]
  refine Finset.sum_congr rfl fun j _ => ?_
  rw [Fin.sum_univ_two]
  congr 1
  · exact congrArg f (Fin.ext (by show 0 + 2 * j.val = 2 * j.val; omega))
  · exact congrArg f (Fin.ext (by show 1 + 2 * j.val = 2 * j.val + 1; omega))

/-- The dot product of two dequantised rows, block by block, is the low halves' plus the high halves'. -/
theorem dot_eq (cx cw : Fin 2048 → BitVec 8) (sx sw : Fin 256 → EReal) :
    ∑ k : Fin 16, ∑ r : Fin 256, deq cx sx (at256 k r) * deq cw sw (at256 k r)
      = ∑ j : Fin 2048, lo (cx j) * sx ⟨j.val / 8, by omega⟩ * (lo (cw j) * sw ⟨j.val / 8, by omega⟩)
        + ∑ j : Fin 2048, hi (cx j) * sx ⟨j.val / 8, by omega⟩ * (hi (cw j) * sw ⟨j.val / 8, by omega⟩) := by
  rw [sum_blocks (fun i => deq cx sx i * deq cw sw i), sum_halves]
  simp only [deq_even, deq_odd]

/-- The kernel's result array and the reference's are equal when the six arguments are. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c : Thread Cert.ReferenceIdeal.nD Cert.ReferenceIdeal.τ).loc Cert.ReferenceIdeal.main_arg0)
      = m ((c : Thread Cert.KernelIdeal.nD Cert.KernelIdeal.τ).loc Cert.KernelIdeal.main_arg0))
    (h1 : m' ((c : Thread Cert.ReferenceIdeal.nD Cert.ReferenceIdeal.τ).loc Cert.ReferenceIdeal.main_arg1)
      = m ((c : Thread Cert.KernelIdeal.nD Cert.KernelIdeal.τ).loc Cert.KernelIdeal.main_arg1))
    (h2 : m' ((c : Thread Cert.ReferenceIdeal.nD Cert.ReferenceIdeal.τ).loc Cert.ReferenceIdeal.main_arg2)
      = m ((c : Thread Cert.KernelIdeal.nD Cert.KernelIdeal.τ).loc Cert.KernelIdeal.main_arg2))
    (h3 : m' ((c : Thread Cert.ReferenceIdeal.nD Cert.ReferenceIdeal.τ).loc Cert.ReferenceIdeal.main_arg3)
      = m ((c : Thread Cert.KernelIdeal.nD Cert.KernelIdeal.τ).loc Cert.KernelIdeal.main_arg3))
    (h4 : m' ((c : Thread Cert.ReferenceIdeal.nD Cert.ReferenceIdeal.τ).loc Cert.ReferenceIdeal.main_arg4)
      = m ((c : Thread Cert.KernelIdeal.nD Cert.KernelIdeal.τ).loc Cert.KernelIdeal.main_arg4))
    (h5 : m' ((c : Thread Cert.ReferenceIdeal.nD Cert.ReferenceIdeal.τ).loc Cert.ReferenceIdeal.main_arg5)
      = m ((c : Thread Cert.KernelIdeal.nD Cert.KernelIdeal.τ).loc Cert.KernelIdeal.main_arg5)) :
    (Cert.ReferenceIdeal.Body.result m' c : Vec Ideal Cert.KernelIdeal.S128x14336 .bf16) = Cert.KernelIdeal.Value.G6 m c := by
  funext i
  obtain ⟨s, n, rfl⟩ : ∃ (s : Fin 128) (n : Fin 14336), i = ix2 s n :=
    ⟨i 0, i 1, by funext a; match a with | ⟨0, _⟩ => rfl | ⟨1, _⟩ => rfl⟩
  refine Eq.trans ?_ (Cert.KernelIdeal.Block.result_apply m c s n).symm
  show Cert.ReferenceIdeal.Body.entry m' c s n = _
  unfold Cert.ReferenceIdeal.Body.entry Cert.KernelIdeal.Block.entry
  rw [dot_eq]
  unfold Cert.ReferenceIdeal.Body.XC Cert.ReferenceIdeal.Body.XS Cert.ReferenceIdeal.Body.GX Cert.ReferenceIdeal.Body.WC
    Cert.ReferenceIdeal.Body.WS Cert.ReferenceIdeal.Body.GW
  rw [h0, h1, h2, h3, h4, h5]

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.KernelRun.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Run.Value
public import proofs.«01_k».proof.Proof.Equation
public import Idealize.ShloMosaic.Lib.Bf16PairInverse
public import proofs.«01_k».proof.Proof.Gen.ReferenceIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- Run on equal arguments, the kernel and the reference leave the same result array, and both leave their arguments unchanged. -/
theorem algebraic (hKI : Cert.KernelIdeal.Facts) (hRI : Cert.ReferenceIdeal.Facts) :
    Cert.algebraic_KernelIdeal_ReferenceIdeal (hKernelIdeal := hKI) (hReferenceIdeal := hRI) := by
  intro m g m' g' _ hagree
  refine ⟨fun c => Cert.KernelIdeal.Value.G6 m c, Cert.KernelIdeal.Value.run m g, ?_⟩
  refine (θ_run Cert.ReferenceIdeal.defs _ _).mono (fun r h c => ?_) (Cert.ReferenceIdeal.Value.run_blocks (F := Ideal) m' g')
  obtain ⟨h0, h1, h2, h3, h4, h5⟩ := hagree c
  exact ⟨((h c).1.trans (Cert.ReferenceIdeal.Body.final m' c)).trans (Cert.Equation.result_eq m m' c h0 h1 h2 h3 h4 h5), (h c).2⟩

/-- The five claims. -/
theorem claim : Cert.Claim := ⟨Cert.Kernel.Gen.facts, Cert.KernelIdeal.Gen.facts, Cert.ReferenceIdeal.Gen.facts,
  fun m ρ _ => Cert.Kernel.Run.frame m ρ,
  fun m ρ _ => Cert.KernelIdeal.Run.frame m ρ,
  fun m ρ _ => Cert.ReferenceIdeal.Gen.frame m ρ,
  ⟨IdealRules.bf16_pair.bufferStatement _ _, IdealRules.bf16_pair.bufferStatement _ _,
    IdealRules.bf16_pair.statement _ _, IdealRules.bf16_pair.statement _ _,
    IdealRules.bf16_pair.statement _ _, IdealRules.bf16_pair.statement _ _⟩,
  algebraic _ _⟩

end Cert.Proof

end
